-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_history [hPre_finite_history : Cert.Pre_finite_history.Facts] (m : (ℓ : Loc Cert.KernelIdeal.nD Cert.KernelIdeal.τ Cert.KernelIdeal.sig) → Buf (Elt Ideal) ℓ) : Prop :=
  ∀ c : Dev Cert.KernelIdeal.nD,
    (Cert.Pre_finite_history.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_history [hPre_finite_history : Cert.Pre_finite_history.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_history.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_history [hKernelIdeal : Cert.KernelIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_history m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_history [hReferenceIdeal : Cert.ReferenceIdeal.Facts] [hPre_finite_history : Cert.Pre_finite_history.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_history m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_history [hKernelIdeal : Cert.KernelIdeal.Facts] [hReferenceIdeal : Cert.ReferenceIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_history m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_2)) (v1 : (c : Dev Cert.KernelIdeal.nD) → Buf (Elt Ideal) ((c.tc : Thread Cert.KernelIdeal.nD Cert.KernelIdeal.τ).loc Cert.KernelIdeal.main_v4_3)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v4_0)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v3_0)) (v6 : (c : Dev Cert.KernelIdeal.nD) → Buf (Elt Ideal) ((c.tc : Thread Cert.KernelIdeal.nD Cert.KernelIdeal.τ).loc Cert.KernelIdeal.main_v3_1)) (v7 : (c : Dev Cert.KernelIdeal.nD) → Buf (Elt Ideal) ((c.tc : Thread Cert.KernelIdeal.nD Cert.KernelIdeal.τ).loc Cert.KernelIdeal.main_v4_1)) (v8 : (c : Dev Cert.KernelIdeal.nD) → Buf (Elt Ideal) ((c.tc : Thread Cert.KernelIdeal.nD Cert.KernelIdeal.τ).loc Cert.KernelIdeal.main_v4_5)) (v9 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_2) = v0 c
          ∧ r.2.mem ((c.tc : Thread Cert.KernelIdeal.nD Cert.KernelIdeal.τ).loc Cert.KernelIdeal.main_v4_3) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v4_0) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v3_0) = v5 c
          ∧ r.2.mem ((c.tc : Thread Cert.KernelIdeal.nD Cert.KernelIdeal.τ).loc Cert.KernelIdeal.main_v3_1) = v6 c
          ∧ r.2.mem ((c.tc : Thread Cert.KernelIdeal.nD Cert.KernelIdeal.τ).loc Cert.KernelIdeal.main_v4_1) = v7 c
          ∧ r.2.mem ((c.tc : Thread Cert.KernelIdeal.nD Cert.KernelIdeal.τ).loc Cert.KernelIdeal.main_v4_5) = v8 c
          ∧ r.2.mem ((c.tc : Thread Cert.KernelIdeal.nD Cert.KernelIdeal.τ).loc Cert.KernelIdeal.main_v5_1) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_v3_7) = v7 c
          ∧ r.2.mem ((c.tc : Thread Cert.ReferenceIdeal.nD Cert.ReferenceIdeal.τ).loc Cert.ReferenceIdeal.main_v3_8) = v8 c
          ∧ r.2.mem ((c.tc : Thread Cert.ReferenceIdeal.nD Cert.ReferenceIdeal.τ).loc Cert.ReferenceIdeal.main_v3_9) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_history : Cert.Pre_finite_history.Facts),
    quiescent_Kernel (hKernel := hKernel)
    ∧ quiescent_KernelIdeal (hKernelIdeal := hKernelIdeal)
    ∧ quiescent_KernelIdeal_pre_finite_history (hKernelIdeal := hKernelIdeal) (hPre_finite_history := hPre_finite_history)
    ∧ quiescent_ReferenceIdeal (hReferenceIdeal := hReferenceIdeal)
    ∧ quiescent_ReferenceIdeal_pre_finite_history (hReferenceIdeal := hReferenceIdeal) (hPre_finite_history := hPre_finite_history)
    ∧ preserves_Kernel_KernelIdeal
    ∧ algebraic_KernelIdeal_ReferenceIdeal_pre_finite_history (hKernelIdeal := hKernelIdeal) (hReferenceIdeal := hReferenceIdeal) (hPre_finite_history := hPre_finite_history)
-- ==== Pre_finite_history.lean ====
abbrev S6x2048x3584 : Shape := ⟨3, ![6, 2048, 3584]⟩
abbrev S3584x3584 : Shape := ⟨2, ![3584, 3584]⟩
abbrev S3x16 : Shape := ⟨2, ![3, 16]⟩
abbrev S_ : Shape := ⟨0, ![]⟩

class Facts : Prop where
  bcast_S_S3x16 : S_.BroadcastsInDim S3x16 (![] : Fin 0 → Fin S3x16.rank)

variable [Facts]

def fn {F : FTy → Type} [FloatOps F] (main_arg0 : FVec F S6x2048x3584 .bf16) (main_arg1 : FVec F S3584x3584 .bf16) (main_arg2 : FVec F S6x2048x3584 .bf16) (main_arg3 : FVec F S3x16 .f32) (main_arg4 : IVec S_ 32) : IVec S3x16 1 :=
  let main_v0 : FVec F S3x16 .f32 := Host.absf main_arg3
  let main_cst : FVec F S_ .f32 := constant S_ .f32 0x7F7FFFFF#32
  let main_v1 : FVec F S3x16 .f32 := broadcastInDim S3x16 ![] bcast_S_S3x16 main_cst
  let main_v2 : IVec S3x16 1 := cmpf .ole main_v0 main_v1
  main_v2
-- ==== Kernel.lean ====
abbrev S6x2048x3584 : Shape := ⟨3, ![6, 2048, 3584]⟩
abbrev S3584x3584 : Shape := ⟨2, ![3584, 3584]⟩
abbrev S3x16 : Shape := ⟨2, ![3, 16]⟩
abbrev S_ : Shape := ⟨0, ![]⟩
abbrev S12288x3584 : Shape := ⟨2, ![12288, 3584]⟩
abbrev S1x1 : Shape := ⟨2, ![1, 1]⟩
abbrev S16x3584 : Shape := ⟨2, ![16, 3584]⟩
abbrev S512x3584 : Shape := ⟨2, ![512, 3584]⟩
abbrev S32x16x3584 : Shape := ⟨3, ![32, 16, 3584]⟩
abbrev S3584x512 : Shape := ⟨2, ![3584, 512]⟩
abbrev S512x512 : Shape := ⟨2, ![512, 512]⟩
abbrev S12288x896 : Shape := ⟨2, ![12288, 896]⟩
abbrev S12288x512 : Shape := ⟨2, ![12288, 512]⟩
abbrev S896x512 : Shape := ⟨2, ![896, 512]⟩
abbrev S1x16x3584 : Shape := ⟨3, ![1, 16, 3584]⟩
abbrev S1 : Shape := ⟨1, ![1]⟩
abbrev S1x1x1 : Shape := ⟨3, ![1, 1, 1]⟩

abbrev nBuf : Space → Nat
  | .hbm => 21
  | .vmem => 29
  | .smem => 8
  | _ => 0

abbrev bufTy : (tb : Table) → Fin (tcTables nBuf tb) → BufTy
  | .hbm, ⟨0, _⟩ => ⟨S6x2048x3584, .bf16⟩
  | .hbm, ⟨1, _⟩ => ⟨S3584x3584, .bf16⟩
  | .hbm, ⟨2, _⟩ => ⟨S6x2048x3584, .bf16⟩
  | .hbm, ⟨3, _⟩ => ⟨S3x16, .f32⟩
  | .hbm, ⟨4, _⟩ => ⟨S_, .i32⟩
  | .hbm, ⟨5, _⟩ => ⟨S12288x3584, .bf16⟩
  | .hbm, ⟨6, _⟩ => ⟨S12288x3584, .bf16⟩
  | .hbm, ⟨7, _⟩ => ⟨S1x1, .i32⟩
  | .hbm, ⟨8, _⟩ => ⟨S3584x3584, .fp8e4m3⟩
  | .hbm, ⟨9, _⟩ => ⟨S1x1, .f32⟩
  | .hbm, ⟨10, _⟩ => ⟨S16x3584, .bf16⟩
  | .hbm, ⟨11, _⟩ => ⟨S12288x3584, .fp8e4m3⟩
  | .hbm, ⟨12, _⟩ => ⟨S12288x3584, .fp8e5m2⟩
  | .hbm, ⟨13, _⟩ => ⟨S12288x3584, .bf16⟩
  | .hbm, ⟨14, _⟩ => ⟨S12288x3584, .bf16⟩
  | .hbm, ⟨15, _⟩ => ⟨S1x1, .f32⟩
  | .hbm, ⟨16, _⟩ => ⟨S1x1, .f32⟩
  | .hbm, ⟨17, _⟩ => ⟨S16x3584, .bf16⟩
  | .hbm, ⟨18, _⟩ => ⟨S16x3584, .bf16⟩
  | .hbm, ⟨19, _⟩ => ⟨S3584x3584, .f32⟩
  | .hbm, ⟨20, _⟩ => ⟨S3x16, .f32⟩
  | .local _ .vmem, ⟨0, _⟩ => ⟨S512x3584, .bf16⟩
  | .local _ .vmem, ⟨1, _⟩ => ⟨S512x3584, .bf16⟩
  | .local _ .vmem, ⟨2, _⟩ => ⟨S512x3584, .fp8e4m3⟩
  | .local _ .vmem, ⟨3, _⟩ => ⟨S512x3584, .fp8e4m3⟩
  | .local _ .vmem, ⟨4, _⟩ => ⟨S16x3584, .bf16⟩
  | .local _ .vmem, ⟨5, _⟩ => ⟨S512x3584, .bf16⟩
  | .local _ .vmem, ⟨6, _⟩ => ⟨S512x3584, .bf16⟩
  | .local _ .vmem, ⟨7, _⟩ => ⟨S512x3584, .bf16⟩
  | .local _ .vmem, ⟨8, _⟩ => ⟨S512x3584, .bf16⟩
  | .local _ .vmem, ⟨9, _⟩ => ⟨S3584x3584, .fp8e4m3⟩
  | .local _ .vmem, ⟨10, _⟩ => ⟨S512x3584, .fp8e4m3⟩
  | .local _ .vmem, ⟨11, _⟩ => ⟨S512x3584, .fp8e4m3⟩
  | .local _ .vmem, ⟨12, _⟩ => ⟨S512x3584, .fp8e5m2⟩
  | .local _ .vmem, ⟨13, _⟩ => ⟨S512x3584, .fp8e5m2⟩
  | .local _ .vmem, ⟨14, _⟩ => ⟨S512x3584, .bf16⟩
  | .local _ .vmem, ⟨15, _⟩ => ⟨S512x3584, .bf16⟩
  | .local _ .vmem, ⟨16, _⟩ => ⟨S512x3584, .bf16⟩
  | .local _ .vmem, ⟨17, _⟩ => ⟨S512x3584, .bf16⟩
  | .local _ .vmem, ⟨18, _⟩ => ⟨S16x3584, .bf16⟩
  | .local _ .vmem, ⟨19, _⟩ => ⟨S16x3584, .bf16⟩
  | .local _ .vmem, ⟨20, _⟩ => ⟨S16x3584, .bf16⟩
  | .local _ .vmem, ⟨21, _⟩ => ⟨S16x3584, .bf16⟩
  | .local _ .vmem, ⟨22, _⟩ => ⟨S16x3584, .bf16⟩
  | .local _ .vmem, ⟨23, _⟩ => ⟨S12288x896, .fp8e4m3⟩
  | .local _ .vmem, ⟨24, _⟩ => ⟨S12288x896, .fp8e4m3⟩
  | .local _ .vmem, ⟨25, _⟩ => ⟨S12288x512, .fp8e5m2⟩
  | .local _ .vmem, ⟨26, _⟩ => ⟨S12288x512, .fp8e5m2⟩
  | .local _ .vmem, ⟨27, _⟩ => ⟨S896x512, .f32⟩
  | .local _ .vmem, ⟨28, _⟩ => ⟨S896x512, .f32⟩
  | .local _ .smem, ⟨0, _⟩ => ⟨S3x16, .f32⟩
  | .local _ .smem, ⟨1, _⟩ => ⟨S1x1, .f32⟩
  | .local _ .smem, ⟨2, _⟩ => ⟨S3x16, .f32⟩
  | .local _ .smem, ⟨3, _⟩ => ⟨S1x1, .f32⟩
  | .local _ .smem, ⟨4, _⟩ => ⟨S1x1, .f32⟩
  | .local _ .smem, ⟨5, _⟩ => ⟨S3x16, .f32⟩
  | .local _ .smem, ⟨6, _⟩ => ⟨S1x1, .i32⟩
  | .local _ .smem, ⟨7, _⟩ => ⟨S3x16, .f32⟩
  | _, _ => ⟨S6x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev main_v5_0 : Ref sig .tc := ⟨.hbm, 19, rfl⟩
abbrev main_v5_1 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg4_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg10_0 : Ref sig .tc := ⟨.vmem, 18, rfl⟩
abbrev cc1_stg11_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc0_stg0_0 : Ref sig .tc := ⟨.smem, 0, rfl⟩
abbrev cc0_stg3_0 : Ref sig .tc := ⟨.smem, 1, rfl⟩
abbrev cc1_stg0_0 : Ref sig .tc := ⟨.smem, 2, rfl⟩
abbrev cc1_stg8_0 : Ref sig .tc := ⟨.smem, 3, rfl⟩
abbrev cc1_stg9_0 : Ref sig .tc := ⟨.smem, 4, rfl⟩
abbrev cc2_stg0_0 : Ref sig .tc := ⟨.smem, 5, rfl⟩
abbrev cc2_stg1_0 : Ref sig .tc := ⟨.smem, 6, rfl⟩
abbrev cc2_stg8_0 : Ref sig .tc := ⟨.smem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem9_0 : DmaSem sig := 22
abbrev cc1_sem10_0 : DmaSem sig := 23
abbrev cc1_sem11_0 : DmaSem sig := 24
abbrev cc2_sem0_0 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S3x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x3584 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x3584 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3584x3584 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x3584 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x3584 .fp8e5m2 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x3584 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x3584 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .smem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .smem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x3584 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S16x3584 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨2, ![4, 7], ![false, false]⟩

def k2_cond1 (i : grid2.Coords) : BitVec 1 :=
  let arg0 : BitVec 32 := BitVec.ofNat 32 (i 0).val
  let c0_i32_93 : BitVec 32 := 0#32
  let v173 : BitVec 1 := Scalar.cmpi .eq arg0 c0_i32_93
  let arg1 : BitVec 32 := BitVec.ofNat 32 (i 1).val
  let c0_i32_94 : BitVec 32 := 0#32
  let v174 : BitVec 1 := Scalar.cmpi .eq arg1 c0_i32_94
  let v175 : BitVec 1 := Scalar.andi v173 v174
  let v176 : BitVec 32 := Scalar.extui v175
  let c0_i32_95 : BitVec 32 := 0#32
  let v177 : BitVec 1 := Scalar.cmpi .ne v176 c0_i32_95
  v177

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S3x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .smem S1x1 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S16x3584 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S16x3584 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S16x3584 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S12288x896 .fp8e4m3 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S12288x512 .fp8e5m2 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S896x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 1 → Memref sig .tc .smem S3x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]
-- ==== ReferenceIdeal.lean ====
abbrev S6x2048x3584 : Shape := ⟨3, ![6, 2048, 3584]⟩
abbrev S3584x3584 : Shape := ⟨2, ![3584, 3584]⟩
abbrev S3x16 : Shape := ⟨2, ![3, 16]⟩
abbrev S_ : Shape := ⟨0, ![]⟩
abbrev S12288x3584 : Shape := ⟨2, ![12288, 3584]⟩
abbrev S1x1 : Shape := ⟨2, ![1, 1]⟩
abbrev S1x16 : Shape := ⟨2, ![1, 16]⟩
abbrev S1 : Shape := ⟨1, ![1]⟩
abbrev S1x256 : Shape := ⟨2, ![1, 256]⟩
abbrev S1x12288x3584 : Shape := ⟨3, ![1, 12288, 3584]⟩
abbrev S1x1x1 : Shape := ⟨3, ![1, 1, 1]⟩
abbrev S1x3584x3584 : Shape := ⟨3, ![1, 3584, 3584]⟩

abbrev nBuf : Space → Nat
  | .hbm => 18
  | .vmem => 15
  | .smem => 0
  | _ => 0

abbrev bufTy : (tb : Table) → Fin (tcTables nBuf tb) → BufTy
  | .hbm, ⟨0, _⟩ => ⟨S6x2048x3584, .bf16⟩
  | .hbm, ⟨1, _⟩ => ⟨S3584x3584, .bf16⟩
  | .hbm, ⟨2, _⟩ => ⟨S6x2048x3584, .bf16⟩
  | .hbm, ⟨3, _⟩ => ⟨S3x16, .f32⟩
  | .hbm, ⟨4, _⟩ => ⟨S_, .i32⟩
  | .hbm, ⟨5, _⟩ => ⟨S12288x3584, .bf16⟩
  | .hbm, ⟨6, _⟩ => ⟨S12288x3584, .bf16⟩
  | .hbm, ⟨7, _⟩ => ⟨S1x1, .i32⟩
  | .hbm, ⟨8, _⟩ => ⟨S12288x3584, .bf16⟩
  | .hbm, ⟨9, _⟩ => ⟨S12288x3584, .bf16⟩
  | .hbm, ⟨10, _⟩ => ⟨S3584x3584, .f32⟩
  | .hbm, ⟨11, _⟩ => ⟨S12288x3584, .fp8e4m3⟩
  | .hbm, ⟨12, _⟩ => ⟨S1x1, .f32⟩
  | .hbm, ⟨13, _⟩ => ⟨S3584x3584, .fp8e4m3⟩
  | .hbm, ⟨14, _⟩ => ⟨S1x1, .f32⟩
  | .hbm, ⟨15, _⟩ => ⟨S12288x3584, .fp8e5m2⟩
  | .hbm, ⟨16, _⟩ => ⟨S1x1, .f32⟩
  | .hbm, ⟨17, _⟩ => ⟨S3x16, .f32⟩
  | .local _ .vmem, ⟨0, _⟩ => ⟨S12288x3584, .bf16⟩
  | .local _ .vmem, ⟨1, _⟩ => ⟨S3584x3584, .bf16⟩
  | .local _ .vmem, ⟨2, _⟩ => ⟨S12288x3584, .bf16⟩
  | .local _ .vmem, ⟨3, _⟩ => ⟨S3x16, .f32⟩
  | .local _ .vmem, ⟨4, _⟩ => ⟨S1x1, .i32⟩
  | .local _ .vmem, ⟨5, _⟩ => ⟨S12288x3584, .bf16⟩
  | .local _ .vmem, ⟨6, _⟩ => ⟨S12288x3584, .bf16⟩
  | .local _ .vmem, ⟨7, _⟩ => ⟨S3584x3584, .f32⟩
  | .local _ .vmem, ⟨8, _⟩ => ⟨S12288x3584, .fp8e4m3⟩
  | .local _ .vmem, ⟨9, _⟩ => ⟨S1x1, .f32⟩
  | .local _ .vmem, ⟨10, _⟩ => ⟨S3584x3584, .fp8e4m3⟩
  | .local _ .vmem, ⟨11, _⟩ => ⟨S1x1, .f32⟩
  | .local _ .vmem, ⟨12, _⟩ => ⟨S12288x3584, .fp8e5m2⟩
  | .local _ .vmem, ⟨13, _⟩ => ⟨S1x1, .f32⟩
  | .local _ .vmem, ⟨14, _⟩ => ⟨S3x16, .f32⟩
  | _, _ => ⟨S6x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v3_8 : Ref sig .tc := ⟨.hbm, 16, rfl⟩
abbrev main_v3_9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S12288x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3584x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3584x3584 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12288x3584 .fp8e5m2 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernelIdeal.Region0.lean ====
/- The first call (`quant_w`) at arbitrary buffer contents `V` on entry: what one grid point leaves in every window, and the body obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_quant_w` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, e0]
    word_cmp
   : ∀ t : Fin grid0.N, cond0_0 (grid0.coords t) ↔ t.val % 7 = 0)

/-! ## The kernel body on any staging memrefs: a subtype the run finds -/

/-- One staging buffer of output window 2, through which its contents are stated (`View.read_writes_of_cover`: the
    choice does not matter). -/
abbrev VO0_2 : View sig .tc .vmem S512x3584 .fp8e4m3 := (Memref.whole cc0_stg2_0 : Memref sig .tc .vmem S512x3584 .fp8e4m3).view
/-- One staging buffer of output window 3, through which its contents are stated (`View.read_writes_of_cover`: the
    choice does not matter). -/
abbrev VO0_3 : View sig .tc .smem S1x1 .f32 := (Memref.whole cc0_stg3_0 : Memref sig .tc .smem S1x1 .f32).view
/-- One staging buffer of output window 4, through which its contents are stated (`View.read_writes_of_cover`: the
    choice does not matter). -/
abbrev VO0_4 : View sig .tc .vmem S16x3584 .bf16 := (Memref.whole cc0_stg4_0 : Memref sig .tc .vmem S16x3584 .bf16).view
/-- Each window's current staging memref at point `t`, spelled as the pipeline passes it (`bodyAt0`), and its wholeness. -/
abbrev ms0_0 (t : Fin cfg0.N) : Memref sig .tc .smem S3x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x3584 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x3584 .bf16 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : cond0_0 i)
    (x0 : Vec F S3x16 .f32) (x1 : Vec F S512x3584 .bf16) :
    Σ' (L2 : List (View.Piece (Elt F) S512x3584 .fp8e4m3)), Σ' (L3 : List (View.Piece (Elt F) S1x1 .f32)), { L4 : List (View.Piece (Elt F) S16x3584 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_quant_w i arg1 harg1 arg2 harg2 arg3 harg3 arg4 harg4 arg5 harg5) K } := by
  refine ⟨?_, ?_, ?_, fun E K => ?run⟩
  case run =>
    simp only [cc0_quant_w_eq_skeleton]; unfold cc0_quant_w_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case A's pieces for output 2 tile its block (1 store of `S512x3584`, checked by the kernel's evaluation: Lib/Ring.lean `Piece.tiledL`, linear in the pieces, through a loop's `@[irreducible]` trip theorem too), so they cover it. -/
theorem cover0_A_2 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : cond0_0 i)
    (x0 : Vec F S3x16 .f32) (x1 : Vec F S512x3584 .bf16) (y : S512x3584.Idx) :
    ∃ pc ∈ (kernelRun0_A c i arg1 harg1 arg2 harg2 arg3 harg3 arg4 harg4 arg5 harg5 hc0 x0 x1).1, y ∈ pc.1.set :=
  View.cover_of_tiledL (kernelRun0_A c i arg1 harg1 arg2 harg2 arg3 harg3 arg4 harg4 arg5 harg5 hc0 x0 x1).1 S512x3584.size (by sl_kernel_rfl) y

/-- What case A leaves in output 2's staging buffer: its pieces read back over junk. -/
def out0_A_2 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : cond0_0 i)
    (x0 : Vec F S3x16 .f32) (x1 : Vec F S512x3584 .bf16) : Vec F S512x3584 .fp8e4m3 :=
  VO0_2.read (Elt F) (VO0_2.writes (Elt F) VO0_2.junk (kernelRun0_A c i arg1 harg1 arg2 harg2 arg3 harg3 arg4 harg4 arg5 harg5 hc0 x0 x1).1)

/-- Case A's pieces for output 3 tile its block (1 store of `S1x1`, checked by the kernel's evaluation: Lib/Ring.lean `Piece.tiledL`, linear in the pieces, through a loop's `@[irreducible]` trip theorem too), so they cover it. -/
theorem cover0_A_3 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : cond0_0 i)
    (x0 : Vec F S3x16 .f32) (x1 : Vec F S512x3584 .bf16) (y : S1x1.Idx) :
    ∃ pc ∈ (kernelRun0_A c i arg1 harg1 arg2 harg2 arg3 harg3 arg4 harg4 arg5 harg5 hc0 x0 x1).2.1, y ∈ pc.1.set :=
  View.cover_of_tiledL (kernelRun0_A c i arg1 harg1 arg2 harg2 arg3 harg3 arg4 harg4 arg5 harg5 hc0 x0 x1).2.1 S1x1.size (by sl_kernel_rfl) y

/-- What case A leaves in output 3's staging buffer: its pieces read back over junk. -/
def out0_A_3 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : cond0_0 i)
    (x0 : Vec F S3x16 .f32) (x1 : Vec F S512x3584 .bf16) : Vec F S1x1 .f32 :=
  VO0_3.read (Elt F) (VO0_3.writes (Elt F) VO0_3.junk (kernelRun0_A c i arg1 harg1 arg2 harg2 arg3 harg3 arg4 harg4 arg5 harg5 hc0 x0 x1).2.1)

/-- Case A's pieces for output 4 tile its block (2 stores of `S16x3584`, checked by the kernel's evaluation: Lib/Ring.lean `Piece.tiledL`, linear in the pieces, through a loop's `@[irreducible]` trip theorem too), so they cover it. -/
theorem cover0_A_4 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : cond0_0 i)
    (x0 : Vec F S3x16 .f32) (x1 : Vec F S512x3584 .bf16) (y : S16x3584.Idx) :
    ∃ pc ∈ (kernelRun0_A c i arg1 harg1 arg2 harg2 arg3 harg3 arg4 harg4 arg5 harg5 hc0 x0 x1).2.2.1, y ∈ pc.1.set :=
  View.cover_of_tiledL (kernelRun0_A c i arg1 harg1 arg2 harg2 arg3 harg3 arg4 harg4 arg5 harg5 hc0 x0 x1).2.2.1 S16x3584.size (by sl_kernel_rfl) y

/-- What case A leaves in output 4's staging buffer: its pieces read back over junk. -/
def out0_A_4 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : cond0_0 i)
    (x0 : Vec F S3x16 .f32) (x1 : Vec F S512x3584 .bf16) : Vec F S16x3584 .bf16 :=
  VO0_4.read (Elt F) (VO0_4.writes (Elt F) VO0_4.junk (kernelRun0_A c i arg1 harg1 arg2 harg2 arg3 harg3 arg4 harg4 arg5 harg5 hc0 x0 x1).2.2.1)

-- (the run's proof term is large: the definition's epilogue — `abstractNestedProofs` — walks it past the default budget)
set_option maxHeartbeats 1000000 in
/-- What the body's stores leave in each output's staging memref, as pieces (last first) IN CASE B (`scf.if` 0 not taken: points 1, 2, 3, 4, 5, 6), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : ¬cond0_0 i)
    (x0 : Vec F S3x16 .f32) (x1 : Vec F S512x3584 .bf16) (xo4 : Vec F S16x3584 .bf16) :
    Σ' (L2 : List (View.Piece (Elt F) S512x3584 .fp8e4m3)), Σ' (L3 : List (View.Piece (Elt F) S1x1 .f32)), { L4 : List (View.Piece (Elt F) S16x3584 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0_quant_w i arg1 harg1 arg2 harg2 arg3 harg3 arg4 harg4 arg5 harg5) K } := by
  refine ⟨?_, ?_, ?_, fun E K => ?run⟩
  case run =>
    simp only [cc0_quant_w_eq_skeleton]; unfold cc0_quant_w_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case B's pieces for output 2 tile its block (1 store of `S512x3584`, checked by the kernel's evaluation: Lib/Ring.lean `Piece.tiledL`, linear in the pieces, through a loop's `@[irreducible]` trip theorem too), so they cover it. -/
theorem cover0_B_2 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : ¬cond0_0 i)
    (x0 : Vec F S3x16 .f32) (x1 : Vec F S512x3584 .bf16) (xo4 : Vec F S16x3584 .bf16) (y : S512x3584.Idx) :
    ∃ pc ∈ (kernelRun0_B c i arg1 harg1 arg2 harg2 arg3 harg3 arg4 harg4 arg5 harg5 hc0 x0 x1 xo4).1, y ∈ pc.1.set :=
  View.cover_of_tiledL (kernelRun0_B c i arg1 harg1 arg2 harg2 arg3 harg3 arg4 harg4 arg5 harg5 hc0 x0 x1 xo4).1 S512x3584.size (by sl_kernel_rfl) y

/-- What case B leaves in output 2's staging buffer: its pieces read back over junk. -/
def out0_B_2 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : ¬cond0_0 i)
    (x0 : Vec F S3x16 .f32) (x1 : Vec F S512x3584 .bf16) (xo4 : Vec F S16x3584 .bf16) : Vec F S512x3584 .fp8e4m3 :=
  VO0_2.read (Elt F) (VO0_2.writes (Elt F) VO0_2.junk (kernelRun0_B c i arg1 harg1 arg2 harg2 arg3 harg3 arg4 harg4 arg5 harg5 hc0 x0 x1 xo4).1)

/-- Case B's pieces for output 3 tile its block (1 store of `S1x1`, checked by the kernel's evaluation: Lib/Ring.lean `Piece.tiledL`, linear in the pieces, through a loop's `@[irreducible]` trip theorem too), so they cover it. -/
theorem cover0_B_3 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : ¬cond0_0 i)
    (x0 : Vec F S3x16 .f32) (x1 : Vec F S512x3584 .bf16) (xo4 : Vec F S16x3584 .bf16) (y : S1x1.Idx) :
    ∃ pc ∈ (kernelRun0_B c i arg1 harg1 arg2 harg2 arg3 harg3 arg4 harg4 arg5 harg5 hc0 x0 x1 xo4).2.1, y ∈ pc.1.set :=
  View.cover_of_tiledL (kernelRun0_B c i arg1 harg1 arg2 harg2 arg3 harg3 arg4 harg4 arg5 harg5 hc0 x0 x1 xo4).2.1 S1x1.size (by sl_kernel_rfl) y

/-- What case B leaves in output 3's staging buffer: its pieces read back over junk. -/
def out0_B_3 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : ¬cond0_0 i)
    (x0 : Vec F S3x16 .f32) (x1 : Vec F S512x3584 .bf16) (xo4 : Vec F S16x3584 .bf16) : Vec F S1x1 .f32 :=
  VO0_3.read (Elt F) (VO0_3.writes (Elt F) VO0_3.junk (kernelRun0_B c i arg1 harg1 arg2 harg2 arg3 harg3 arg4 harg4 arg5 harg5 hc0 x0 x1 xo4).2.1)

/-- Case B's pieces for output 4 tile its block (1 store of `S16x3584`, checked by the kernel's evaluation: Lib/Ring.lean `Piece.tiledL`, linear in the pieces, through a loop's `@[irreducible]` trip theorem too), so they cover it. -/
theorem cover0_B_4 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : ¬cond0_0 i)
    (x0 : Vec F S3x16 .f32) (x1 : Vec F S512x3584 .bf16) (xo4 : Vec F S16x3584 .bf16) (y : S16x3584.Idx) :
    ∃ pc ∈ (kernelRun0_B c i arg1 harg1 arg2 harg2 arg3 harg3 arg4 harg4 arg5 harg5 hc0 x0 x1 xo4).2.2.1, y ∈ pc.1.set :=
  View.cover_of_tiledL (kernelRun0_B c i arg1 harg1 arg2 harg2 arg3 harg3 arg4 harg4 arg5 harg5 hc0 x0 x1 xo4).2.2.1 S16x3584.size (by sl_kernel_rfl) y

/-- What case B leaves in output 4's staging buffer: its pieces read back over junk. -/
def out0_B_4 (c : Dev nD) (i : grid0.Coords) (arg1 : Memref sig .tc .smem S3x16 .f32) (harg1 : arg1.IsWhole) (arg2 : Memref sig .tc .vmem S512x3584 .bf16) (harg2 : arg2.IsWhole) (arg3 : Memref sig .tc .vmem S512x3584 .fp8e4m3) (harg3 : arg3.IsWhole) (arg4 : Memref sig .tc .smem S1x1 .f32) (harg4 : arg4.IsWhole) (arg5 : Memref sig .tc .vmem S16x3584 .bf16) (harg5 : arg5.IsWhole) (hc0 : ¬cond0_0 i)
    (x0 : Vec F S3x16 .f32) (x1 : Vec F S512x3584 .bf16) (xo4 : Vec F S16x3584 .bf16) : Vec F S16x3584 .bf16 :=
  VO0_4.read (Elt F) (VO0_4.writes (Elt F) VO0_4.junk (kernelRun0_B c i arg1 harg1 arg2 harg2 arg3 harg3 arg4 harg4 arg5 harg5 hc0 x0 x1 xo4).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x3584 .fp8e4m3 × Vec F S1x1 .f32 × Vec F S16x3584 .bf16
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk0 V c 0 ⟨0, hn⟩) (iblk0 V c 1 ⟨0, hn⟩))
  | n + 1, hn =>
    if h0 : (n + 1) % 7 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn)).2.2)

/-- `outsAt0` at a point of case A: that case's contents. -/
theorem outsAt0_A (c : Dev nD) (t : Fin cfg0.N) (h0 : t.val % 7 = 0) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 7 = 0) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.2, out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a point of case B output 4's current staging buffer holds what the body left at the point before: the point is
    not the first, the buffer was not written back between (`flush0_4`), the window is live and uncut (Lib/Pipeline/Frame.lean
    `Dat.before_out_kept`). -/
theorem before0_4_B (c : Dev nD) (t : Fin cfg0.N) (h0 : ¬t.val % 7 = 0) (d) :
    (dat0 V c).before 4 t d = (outsAt0 V c (t.val - 1) (Nat.lt_of_le_of_lt (Nat.sub_le _ _) t.isLt)).2.2 := by
  have hN : t.val < 7 := lt_of_lt_of_eq t.isLt (show cfg0.N = 7 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 7 := lt_of_lt_of_eq t.isLt (show cfg0.N = 7 from N_0)
  by_cases h0 : t.val % 7 = 0
  · rw [outsAt0_A V c t h0]
    unfold out0_A_2 out0_A_3 out0_A_4; (try dsimp only)
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _)
    unfold owns; iexists _; isplitr
    swap; · iexact H4
    ipureintro; exact View.read_writes_of_cover _ _ _ _ _ (cover0_A_4 c _ _ _ _ _ _ _ _ _ _ _ _ _ _)
  · rw [outsAt0_B V c t h0]
    simp only [before0_4_B V c t h0]
    unfold out0_B_2 out0_B_3 out0_B_4; (try dsimp only)
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk0 V c 0 t) (iblk0 V c 1 t) _).2.2.2 Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, ⟨%e4, H4⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.KernelIdeal.Region1.lean ====
/- The second call (`fwd_dx`) at arbitrary buffer contents `V` on entry: what one grid point leaves in every window, and the body obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_fwd_dx` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 24 = 0 :=
  (fun t => by
    have ht : t.val < 24 := Nat.lt_of_lt_of_eq t.isLt N_1
    have e0 : (grid1.coords t 0).val = t.val / 1 % 24 := Pipeline.Grid.coords_val t 0 (by decide) rfl
    simp only [cond1_0, e0]
    word_cmp
   : ∀ t : Fin grid1.N, cond1_0 (grid1.coords t) ↔ t.val % 24 = 0)

/-! ## The kernel body on any staging memrefs: a subtype the run finds -/

/-- One staging buffer of output window 4, through which its contents are stated (`View.read_writes_of_cover`: the
    choice does not matter). -/
abbrev VO1_4 : View sig .tc .vmem S512x3584 .fp8e4m3 := (Memref.whole cc1_stg4_0 : Memref sig .tc .vmem S512x3584 .fp8e4m3).view
/-- One staging buffer of output window 5, through which its contents are stated (`View.read_writes_of_cover`: the
    choice does not matter). -/
abbrev VO1_5 : View sig .tc .vmem S512x3584 .fp8e5m2 := (Memref.whole cc1_stg5_0 : Memref sig .tc .vmem S512x3584 .fp8e5m2).view
/-- One staging buffer of output window 6, through which its contents are stated (`View.read_writes_of_cover`: the
    choice does not matter). -/
abbrev VO1_6 : View sig .tc .vmem S512x3584 .bf16 := (Memref.whole cc1_stg6_0 : Memref sig .tc .vmem S512x3584 .bf16).view
/-- One staging buffer of output window 7, through which its contents are stated (`View.read_writes_of_cover`: the
    choice does not matter). -/
abbrev VO1_7 : View sig .tc .vmem S512x3584 .bf16 := (Memref.whole cc1_stg7_0 : Memref sig .tc .vmem S512x3584 .bf16).view
/-- One staging buffer of output window 8, through which its contents are stated (`View.read_writes_of_cover`: the
    choice does not matter). -/
abbrev VO1_8 : View sig .tc .smem S1x1 .f32 := (Memref.whole cc1_stg8_0 : Memref sig .tc .smem S1x1 .f32).view
/-- One staging buffer of output window 9, through which its contents are stated (`View.read_writes_of_cover`: the
    choice does not matter). -/
abbrev VO1_9 : View sig .tc .smem S1x1 .f32 := (Memref.whole cc1_stg9_0 : Memref sig .tc .smem S1x1 .f32).view
/-- One staging buffer of output window 10, through which its contents are stated (`View.read_writes_of_cover`: the
    choice does not matter). -/
abbrev VO1_10 : View sig .tc .vmem S16x3584 .bf16 := (Memref.whole cc1_stg10_0 : Memref sig .tc .vmem S16x3584 .bf16).view
/-- One staging buffer of output window 11, through which its contents are stated (`View.read_writes_of_cover`: the
    choice does not matter). -/
abbrev VO1_11 : View sig .tc .vmem S16x3584 .bf16 := (Memref.whole cc1_stg11_0 : Memref sig .tc .vmem S16x3584 .bf16).view
/-- Each window's current staging memref at point `t`, spelled as the pipeline passes it (`bodyAt1`), and its wholeness. -/
abbrev ms1_0 (t : Fin cfg1.N) : Memref sig .tc .smem S3x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x3584 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x3584 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3584x3584 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x3584 .fp8e4m3 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x3584 .fp8e5m2 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x3584 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x3584 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .smem S1x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .smem S1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S16x3584 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S16x3584 .bf16 := win1_11.stage (cfg1.slots t 11)
abbrev hs1_11 (t : Fin cfg1.N) : (ms1_11 t).IsWhole := hstage1_11 ((cfg1.slots t 11).cast nbuf1_11)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) :
    Σ' (L4 : List (View.Piece (Elt F) S512x3584 .fp8e4m3)), Σ' (L5 : List (View.Piece (Elt F) S512x3584 .fp8e5m2)), Σ' (L6 : List (View.Piece (Elt F) S512x3584 .bf16)), Σ' (L7 : List (View.Piece (Elt F) S512x3584 .bf16)), Σ' (L8 : List (View.Piece (Elt F) S1x1 .f32)), Σ' (L9 : List (View.Piece (Elt F) S1x1 .f32)), Σ' (L10 : List (View.Piece (Elt F) S16x3584 .bf16)), { L11 : List (View.Piece (Elt F) S16x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc1_fwd_dx i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc1_fwd_dx_eq_skeleton]; unfold cc1_fwd_dx_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-- Case A's pieces for output 4 tile its block (1 store of `S512x3584`, checked by the kernel's evaluation: Lib/Ring.lean `Piece.tiledL`, linear in the pieces, through a loop's `@[irreducible]` trip theorem too), so they cover it. -/
theorem cover1_A_4 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) (y : S512x3584.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 x0 x1 x2 x3).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 x0 x1 x2 x3).1 S512x3584.size (by sl_kernel_rfl) y

/-- What case A leaves in output 4's staging buffer: its pieces read back over junk. -/
def out1_A_4 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) : Vec F S512x3584 .fp8e4m3 :=
  VO1_4.read (Elt F) (VO1_4.writes (Elt F) VO1_4.junk (kernelRun1_A c i arg1 harg1 arg2 harg2 arg3 harg3 arg4 harg4 arg5 harg5 arg6 harg6 arg7 harg7 arg8 harg8 arg9 harg9 arg10 harg10 arg11 harg11 arg12 harg12 hc0 x0 x1 x2 x3).1)

/-- Case A's pieces for output 5 tile its block (1 store of `S512x3584`, checked by the kernel's evaluation: Lib/Ring.lean `Piece.tiledL`, linear in the pieces, through a loop's `@[irreducible]` trip theorem too), so they cover it. -/
theorem cover1_A_5 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) (y : S512x3584.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.1 S512x3584.size (by sl_kernel_rfl) y

/-- What case A leaves in output 5's staging buffer: its pieces read back over junk. -/
def out1_A_5 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) : Vec F S512x3584 .fp8e5m2 :=
  VO1_5.read (Elt F) (VO1_5.writes (Elt F) VO1_5.junk (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.1)

/-- Case A's pieces for output 6 tile its block (7 stores of `S512x512`, checked by the kernel's evaluation: Lib/Ring.lean `Piece.tiledL`, linear in the pieces, through a loop's `@[irreducible]` trip theorem too), so they cover it. -/
theorem cover1_A_6 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) (y : S512x3584.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.1 S512x512.size (by sl_kernel_rfl) y

/-- What case A leaves in output 6's staging buffer: its pieces read back over junk. -/
def out1_A_6 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) : Vec F S512x3584 .bf16 :=
  VO1_6.read (Elt F) (VO1_6.writes (Elt F) VO1_6.junk (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.1)

/-- Case A's pieces for output 7 tile its block (7 stores of `S512x512`, checked by the kernel's evaluation: Lib/Ring.lean `Piece.tiledL`, linear in the pieces, through a loop's `@[irreducible]` trip theorem too), so they cover it. -/
theorem cover1_A_7 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) (y : S512x3584.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.1 S512x512.size (by sl_kernel_rfl) y

/-- What case A leaves in output 7's staging buffer: its pieces read back over junk. -/
def out1_A_7 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) : Vec F S512x3584 .bf16 :=
  VO1_7.read (Elt F) (VO1_7.writes (Elt F) VO1_7.junk (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.1)

/-- Case A's pieces for output 8 tile its block (1 store of `S1x1`, checked by the kernel's evaluation: Lib/Ring.lean `Piece.tiledL`, linear in the pieces, through a loop's `@[irreducible]` trip theorem too), so they cover it. -/
theorem cover1_A_8 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.1 S1x1.size (by sl_kernel_rfl) y

/-- What case A leaves in output 8's staging buffer: its pieces read back over junk. -/
def out1_A_8 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) : Vec F S1x1 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.1)

/-- Case A's pieces for output 9 tile its block (1 store of `S1x1`, checked by the kernel's evaluation: Lib/Ring.lean `Piece.tiledL`, linear in the pieces, through a loop's `@[irreducible]` trip theorem too), so they cover it. -/
theorem cover1_A_9 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) (y : S1x1.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.1 S1x1.size (by sl_kernel_rfl) y

/-- What case A leaves in output 9's staging buffer: its pieces read back over junk. -/
def out1_A_9 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) : Vec F S1x1 .f32 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.1)

/-- Case A's pieces for output 10 tile its block (2 stores of `S16x3584`, checked by the kernel's evaluation: Lib/Ring.lean `Piece.tiledL`, linear in the pieces, through a loop's `@[irreducible]` trip theorem too), so they cover it. -/
theorem cover1_A_10 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) (y : S16x3584.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.2.1 S16x3584.size (by sl_kernel_rfl) y

/-- What case A leaves in output 10's staging buffer: its pieces read back over junk. -/
def out1_A_10 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) : Vec F S16x3584 .bf16 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.2.1)

/-- Case A's pieces for output 11 tile its block (2 stores of `S16x3584`, checked by the kernel's evaluation: Lib/Ring.lean `Piece.tiledL`, linear in the pieces, through a loop's `@[irreducible]` trip theorem too), so they cover it. -/
theorem cover1_A_11 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) (y : S16x3584.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.2.2.1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.2.2.1 S16x3584.size (by sl_kernel_rfl) y

/-- What case A leaves in output 11's staging buffer: its pieces read back over junk. -/
def out1_A_11 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : cond1_0 i)
    (x0 : Vec F S3x16 .f32) (x1 : Vec F S512x3584 .bf16) (x2 : Vec F S512x3584 .bf16) (x3 : Vec F S3584x3584 .fp8e4m3) : Vec F S16x3584 .bf16 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 hc0 x0 x1 x2 x3).2.2.2.2.2.2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 23: 23 of 24), WITH the
    proof that on whole staging memrefs — the inputs' at their contents, the outputs it reads before covering (10, 11) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) :
    Σ' (L4 : List (View.Piece (Elt F) S512x3584 .fp8e4m3)), Σ' (L5 : List (View.Piece (Elt F) S512x3584 .fp8e5m2)), Σ' (L6 : List (View.Piece (Elt F) S512x3584 .bf16)), Σ' (L7 : List (View.Piece (Elt F) S512x3584 .bf16)), Σ' (L8 : List (View.Piece (Elt F) S1x1 .f32)), Σ' (L9 : List (View.Piece (Elt F) S1x1 .f32)), Σ' (L10 : List (View.Piece (Elt F) S16x3584 .bf16)), { L11 : List (View.Piece (Elt F) S16x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ owns (c : Thread nD τ) arg12 fullShare xo11
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc1_fwd_dx i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, ?_, fun E K => ?run⟩
  case run =>
    simp only [cc1_fwd_dx_eq_skeleton]; unfold cc1_fwd_dx_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-- Case B's pieces for output 4 tile its block (1 store of `S512x3584`, checked by the kernel's evaluation: Lib/Ring.lean `Piece.tiledL`, linear in the pieces, through a loop's `@[irreducible]` trip theorem too), so they cover it. -/
theorem cover1_B_4 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) (y : S512x3584.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).1 S512x3584.size (by sl_kernel_rfl) y

/-- What case B leaves in output 4's staging buffer: its pieces read back over junk. -/
def out1_B_4 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) : Vec F S512x3584 .fp8e4m3 :=
  VO1_4.read (Elt F) (VO1_4.writes (Elt F) VO1_4.junk (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).1)

/-- Case B's pieces for output 5 tile its block (1 store of `S512x3584`, checked by the kernel's evaluation: Lib/Ring.lean `Piece.tiledL`, linear in the pieces, through a loop's `@[irreducible]` trip theorem too), so they cover it. -/
theorem cover1_B_5 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) (y : S512x3584.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.1 S512x3584.size (by sl_kernel_rfl) y

/-- What case B leaves in output 5's staging buffer: its pieces read back over junk. -/
def out1_B_5 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) : Vec F S512x3584 .fp8e5m2 :=
  VO1_5.read (Elt F) (VO1_5.writes (Elt F) VO1_5.junk (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.1)

/-- Case B's pieces for output 6 tile its block (7 stores of `S512x512`, checked by the kernel's evaluation: Lib/Ring.lean `Piece.tiledL`, linear in the pieces, through a loop's `@[irreducible]` trip theorem too), so they cover it. -/
theorem cover1_B_6 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) (y : S512x3584.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.1 S512x512.size (by sl_kernel_rfl) y

/-- What case B leaves in output 6's staging buffer: its pieces read back over junk. -/
def out1_B_6 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) : Vec F S512x3584 .bf16 :=
  VO1_6.read (Elt F) (VO1_6.writes (Elt F) VO1_6.junk (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.1)

/-- Case B's pieces for output 7 tile its block (7 stores of `S512x512`, checked by the kernel's evaluation: Lib/Ring.lean `Piece.tiledL`, linear in the pieces, through a loop's `@[irreducible]` trip theorem too), so they cover it. -/
theorem cover1_B_7 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) (y : S512x3584.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.1 S512x512.size (by sl_kernel_rfl) y

/-- What case B leaves in output 7's staging buffer: its pieces read back over junk. -/
def out1_B_7 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) : Vec F S512x3584 .bf16 :=
  VO1_7.read (Elt F) (VO1_7.writes (Elt F) VO1_7.junk (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.1)

/-- Case B's pieces for output 8 tile its block (1 store of `S1x1`, checked by the kernel's evaluation: Lib/Ring.lean `Piece.tiledL`, linear in the pieces, through a loop's `@[irreducible]` trip theorem too), so they cover it. -/
theorem cover1_B_8 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.1 S1x1.size (by sl_kernel_rfl) y

/-- What case B leaves in output 8's staging buffer: its pieces read back over junk. -/
def out1_B_8 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) : Vec F S1x1 .f32 :=
  VO1_8.read (Elt F) (VO1_8.writes (Elt F) VO1_8.junk (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.1)

/-- Case B's pieces for output 9 tile its block (1 store of `S1x1`, checked by the kernel's evaluation: Lib/Ring.lean `Piece.tiledL`, linear in the pieces, through a loop's `@[irreducible]` trip theorem too), so they cover it. -/
theorem cover1_B_9 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) (y : S1x1.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.1 S1x1.size (by sl_kernel_rfl) y

/-- What case B leaves in output 9's staging buffer: its pieces read back over junk. -/
def out1_B_9 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) : Vec F S1x1 .f32 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.1)

/-- Case B's pieces for output 10 tile its block (1 store of `S16x3584`, checked by the kernel's evaluation: Lib/Ring.lean `Piece.tiledL`, linear in the pieces, through a loop's `@[irreducible]` trip theorem too), so they cover it. -/
theorem cover1_B_10 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) (y : S16x3584.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.2.1 S16x3584.size (by sl_kernel_rfl) y

/-- What case B leaves in output 10's staging buffer: its pieces read back over junk. -/
def out1_B_10 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) : Vec F S16x3584 .bf16 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.2.1)

/-- Case B's pieces for output 11 tile its block (1 store of `S16x3584`, checked by the kernel's evaluation: Lib/Ring.lean `Piece.tiledL`, linear in the pieces, through a loop's `@[irreducible]` trip theorem too), so they cover it. -/
theorem cover1_B_11 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) (y : S16x3584.Idx) :
    ∃ pc ∈ (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.2.2.1, y ∈ pc.1.set :=
  View.cover_of_tiledL (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.2.2.1 S16x3584.size (by sl_kernel_rfl) y

/-- What case B leaves in output 11's staging buffer: its pieces read back over junk. -/
def out1_B_11 (c : Dev nD) (i : grid1.Coords) (arg1 : Memref sig .tc .smem S3x16 .f32) (harg1 : arg1.IsWhole) (arg2 : Memref sig .tc .vmem S512x3584 .bf16) (harg2 : arg2.IsWhole) (arg3 : Memref sig .tc .vmem S512x3584 .bf16) (harg3 : arg3.IsWhole) (arg4 : Memref sig .tc .vmem S3584x3584 .fp8e4m3) (harg4 : arg4.IsWhole) (arg5 : Memref sig .tc .vmem S512x3584 .fp8e4m3) (harg5 : arg5.IsWhole) (arg6 : Memref sig .tc .vmem S512x3584 .fp8e5m2) (harg6 : arg6.IsWhole) (arg7 : Memref sig .tc .vmem S512x3584 .bf16) (harg7 : arg7.IsWhole) (arg8 : Memref sig .tc .vmem S512x3584 .bf16) (harg8 : arg8.IsWhole) (arg9 : Memref sig .tc .smem S1x1 .f32) (harg9 : arg9.IsWhole) (arg10 : Memref sig .tc .smem S1x1 .f32) (harg10 : arg10.IsWhole) (arg11 : Memref sig .tc .vmem S16x3584 .bf16) (harg11 : arg11.IsWhole) (arg12 : Memref sig .tc .vmem S16x3584 .bf16) (harg12 : arg12.IsWhole) (hc0 : ¬cond1_0 i)
    (x0 : Vec F S3x16 .f32) (x1 : Vec F S512x3584 .bf16) (x2 : Vec F S512x3584 .bf16) (x3 : Vec F S3584x3584 .fp8e4m3) (xo10 : Vec F S16x3584 .bf16) (xo11 : Vec F S16x3584 .bf16) : Vec F S16x3584 .bf16 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg10 harg10 arg11 harg11 arg12 harg12 hc0 x0 x1 x2 x3 xo10 xo11).2.2.2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x3584 .fp8e4m3 × Vec F S512x3584 .fp8e5m2 × Vec F S512x3584 .bf16 × Vec F S512x3584 .bf16 × Vec F S1x1 .f32 × Vec F S1x1 .f32 × Vec F S16x3584 .bf16 × Vec F S16x3584 .bf16
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 24 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.2.1 (outsAt1 c n (Nat.lt_of_succ_lt hn)).2.2.2.2.2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.2.1 (outsAt1 c n (Nat.lt_of_succ_lt hn)).2.2.2.2.2.2.2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.2.1 (outsAt1 c n (Nat.lt_of_succ_lt hn)).2.2.2.2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.2.1 (outsAt1 c n (Nat.lt_of_succ_lt hn)).2.2.2.2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.2.1 (outsAt1 c n (Nat.lt_of_succ_lt hn)).2.2.2.2.2.2.2, out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.2.1 (outsAt1 c n (Nat.lt_of_succ_lt hn)).2.2.2.2.2.2.2, out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.2.1 (outsAt1 c n (Nat.lt_of_succ_lt hn)).2.2.2.2.2.2.2, out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.2.2.2.1 (outsAt1 c n (Nat.lt_of_succ_lt hn)).2.2.2.2.2.2.2)

/-- `outsAt1` at a point of case A: that case's contents. -/
theorem outsAt1_A (c : Dev nD) (t : Fin cfg1.N) (h0 : t.val % 24 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t), out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 24 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.2.2.1 (outsAt1 V c (t.val - 1) (Nat.lt_of_le_of_lt (Nat.sub_le _ _) t.isLt)).2.2.2.2.2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.2.2.1 (outsAt1 V c (t.val - 1) (Nat.lt_of_le_of_lt (Nat.sub_le _ _) t.isLt)).2.2.2.2.2.2.2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.2.2.1 (outsAt1 V c (t.val - 1) (Nat.lt_of_le_of_lt (Nat.sub_le _ _) t.isLt)).2.2.2.2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.2.2.1 (outsAt1 V c (t.val - 1) (Nat.lt_of_le_of_lt (Nat.sub_le _ _) t.isLt)).2.2.2.2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.2.2.1 (outsAt1 V c (t.val - 1) (Nat.lt_of_le_of_lt (Nat.sub_le _ _) t.isLt)).2.2.2.2.2.2.2, out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.2.2.1 (outsAt1 V c (t.val - 1) (Nat.lt_of_le_of_lt (Nat.sub_le _ _) t.isLt)).2.2.2.2.2.2.2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.2.2.1 (outsAt1 V c (t.val - 1) (Nat.lt_of_le_of_lt (Nat.sub_le _ _) t.isLt)).2.2.2.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.2.2.2.2.1 (outsAt1 V c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
    | ⟨7, _⟩ => (outsAt1 V c t.val t.isLt).2.2.2.1
    | ⟨8, _⟩ => (outsAt1 V c t.val t.isLt).2.2.2.2.1
    | ⟨9, _⟩ => (outsAt1 V c t.val t.isLt).2.2.2.2.2.1
    | ⟨10, _⟩ => (outsAt1 V c t.val t.isLt).2.2.2.2.2.2.1
    | ⟨11, _⟩ => (outsAt1 V c t.val t.isLt).2.2.2.2.2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem after1_7 (c : Dev nD) (t : Fin cfg1.N) : (dat1 V c).after 7 t = (outsAt1 V c t.val t.isLt).2.2.2.1 := by dsimp only [dat1]
theorem after1_8 (c : Dev nD) (t : Fin cfg1.N) : (dat1 V c).after 8 t = (outsAt1 V c t.val t.isLt).2.2.2.2.1 := by dsimp only [dat1]
theorem after1_9 (c : Dev nD) (t : Fin cfg1.N) : (dat1 V c).after 9 t = (outsAt1 V c t.val t.isLt).2.2.2.2.2.1 := by dsimp only [dat1]
theorem after1_10 (c : Dev nD) (t : Fin cfg1.N) : (dat1 V c).after 10 t = (outsAt1 V c t.val t.isLt).2.2.2.2.2.2.1 := by dsimp only [dat1]
theorem after1_11 (c : Dev nD) (t : Fin cfg1.N) : (dat1 V c).after 11 t = (outsAt1 V c t.val t.isLt).2.2.2.2.2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
/-- At a point of case B output 10's current staging buffer holds what the body left at the point before: the point is
    not the first, the buffer was not written back between (`flush1_10`), the window is live and uncut (Lib/Pipeline/Frame.lean
    `Dat.before_out_kept`). -/
theorem before1_10_B (c : Dev nD) (t : Fin cfg1.N) (h0 : ¬t.val % 24 = 0) (d) :
    (dat1 V c).before 10 t d = (outsAt1 V c (t.val - 1) (Nat.lt_of_le_of_lt (Nat.sub_le _ _) t.isLt)).2.2.2.2.2.2.1 := by
  have hN : t.val < 24 := lt_of_lt_of_eq t.isLt (show cfg1.N = 24 from N_1)
  rw [Dat.before_out_kept _ 10 rfl t (by omega) (Bool.eq_false_iff.mpr fun h => by have := (flush1_10 _).mp h; dsimp only at this; omega)
    (fun _ => rfl) (fun _ _ => rfl)]
  dsimp only [dat1]
/-- At a point of case B output 11's current staging buffer holds what the body left at the point before: the point is
    not the first, the buffer was not written back between (`flush1_11`), the window is live and uncut (Lib/Pipeline/Frame.lean
    `Dat.before_out_kept`). -/
theorem before1_11_B (c : Dev nD) (t : Fin cfg1.N) (h0 : ¬t.val % 24 = 0) (d) :
    (dat1 V c).before 11 t d = (outsAt1 V c (t.val - 1) (Nat.lt_of_le_of_lt (Nat.sub_le _ _) t.isLt)).2.2.2.2.2.2.2 := by
  have hN : t.val < 24 := lt_of_lt_of_eq t.isLt (show cfg1.N = 24 from N_1)
  rw [Dat.before_out_kept _ 11 rfl t (by omega) (Bool.eq_false_iff.mpr fun h => by have := (flush1_11 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 2400000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  have hN : t.val < 24 := lt_of_lt_of_eq t.isLt (show cfg1.N = 24 from N_1)
  by_cases h0 : t.val % 24 = 0
  · rw [outsAt1_A V c t h0]
    unfold out1_A_4 out1_A_5 out1_A_6 out1_A_7 out1_A_8 out1_A_9 out1_A_10 out1_A_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun1_A c (grid1.coords t) _ _ _ _ _ _ _ _ _ _ _ _ _ _ _ _ _ _ _ _ _ _ _ _ ((hcond1_0 t).mpr h0) (iblk1 V c 0 t) (iblk1 V c 1 t) (iblk1 V c 2 t) (iblk1 V c 3 t)).2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover1_A_5 c _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_A_6 c _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover1_A_7 c _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_A_8 c _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover1_A_9 c _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _)
    unfold owns; iexists _; isplitr
    swap; · iexact H11
    ipureintro; exact View.read_writes_of_cover _ _ _ _ _ (cover1_A_11 c _ _ _ _ _ _ _ _ _ _ _ _ _ _ _ _ _ _ _ _ _ _ _ _ _ _ _ _ _ _)
  · rw [outsAt1_B V c t h0]
    simp only [before1_10_B V c t h0, before1_11_B V c t h0]
    unfold out1_B_4 out1_B_5 out1_B_6 out1_B_7 out1_B_8 out1_B_9 out1_B_10 out1_B_11; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun1_B c (grid1.coords t) _ _ _ _ _ _ _ _ _ _ _ _ _ _ _ _ _ _ _ _ _ _ _ _ (fun h => h0 ((hcond1_0 t).mp h)) (iblk1 V c 0 t) (iblk1 V c 1 t) (iblk1 V c 2 t) (iblk1 V c 3 t) _ _).2.2.2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    isplitl [H11]; · iexact H11
    iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover1_B_5 c _ _ _ _ _ _ _ _ _ _ _ _ _ _ _ _ _ _ _ _ _ _ _ _ _ _ _ _ _ _ _ _)
    isplitl [H6]
    · unfold owns; iexists _; isplitr
      swap; · iexact H6
      ipureintro; exact View.read_writes_of_cover _ _ _ _ _ (cover1_B_6 c _ _ _ _ _ _ _ _ _ _ _ _ _ _ _ _ _ _ _ _ _ _ _ _ _ _ _ _ _ _ _ _)
    isplitl [H7]
    · unfold owns; iexists _; isplitr
      swap; · iexact H7
      ipureintro; exact View.read_writes_of_cover _ _ _ _ _ (cover1_B_7 c _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover1_B_8 c _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover1_B_9 c _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover1_B_10 c _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover1_B_11 c _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.Region2.lean ====
/- The third call (`dw`) at arbitrary buffer contents `V` on entry: what one grid point leaves in every window, and the body obligation of its pipeline.
   The history (window 8) is stored at the first grid point only; every later point passes it on, and the last one writes it back. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_dw` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The body's `scf.if` is taken at the first grid point only. -/
theorem hcond2_0 (t : Fin cfg2.N) : k2_cond1 (grid2.coords t) = 1#1 ↔ t.val % 28 = 0 := by
  have ht : t.val < 28 := Nat.lt_of_lt_of_eq t.isLt N_2
  have e0 : (grid2.coords t 0).val = t.val / 7 % 4 := Pipeline.Grid.coords_val t 0 (by decide) rfl
  have e1 : (grid2.coords t 1).val = t.val / 1 % 7 := Pipeline.Grid.coords_val t 1 (by decide) rfl
  simp only [k2_cond1, e0, e1]
  word_cmp

/-! ## The kernel body on any staging memrefs: a subtype the run finds -/

/-- One staging buffer of output window 7, through which its contents are stated (`View.read_writes_of_cover`: the
    choice does not matter). -/
abbrev VO2_7 : View sig .tc .vmem S896x512 .f32 := (Memref.whole cc2_stg7_0 : Memref sig .tc .vmem S896x512 .f32).view
/-- One staging buffer of output window 8, through which its contents are stated (`View.read_writes_of_cover`: the
    choice does not matter). -/
abbrev VO2_8 : View sig .tc .smem S3x16 .f32 := (Memref.whole cc2_stg8_0 : Memref sig .tc .smem S3x16 .f32).view
/-- Each window's current staging memref at point `t`, spelled as the pipeline passes it (`bodyAt2`), and its wholeness. -/
abbrev ms2_0 (t : Fin cfg2.N) : Memref sig .tc .smem S3x16 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x3584 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x3584 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x3584 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S12288x896 .fp8e4m3 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S12288x512 .fp8e5m2 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S896x512 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .smem S3x16 .f32 := win2_8.stage (cfg2.slots t 8)
abbrev hs2_8 (t : Fin cfg2.N) : (ms2_8 t).IsWhole := hstage2_8 ((cfg2.slots t 8).cast nbuf2_8)

-- (the run's proof term is large: the definition's epilogue — `abstractNestedProofs` — walks it past the default budget)
set_option maxHeartbeats 1048000 in
/-- What the body's stores leave in each output's staging memref, as pieces (last first) at the first grid point, WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .smem S3x16 .f32) (harg2 : arg2.IsWhole) (arg3 : Memref sig .tc .smem S1x1 .i32) (harg3 : arg3.IsWhole) (arg4 : Memref sig .tc .vmem S16x3584 .bf16) (harg4 : arg4.IsWhole) (arg5 : Memref sig .tc .vmem S16x3584 .bf16) (harg5 : arg5.IsWhole) (arg6 : Memref sig .tc .vmem S16x3584 .bf16) (harg6 : arg6.IsWhole) (arg7 : Memref sig .tc .vmem S12288x896 .fp8e4m3) (harg7 : arg7.IsWhole) (arg8 : Memref sig .tc .vmem S12288x512 .fp8e5m2) (harg8 : arg8.IsWhole) (arg9 : Memref sig .tc .vmem S896x512 .f32) (harg9 : arg9.IsWhole) (arg10 : Memref sig .tc .smem S3x16 .f32) (harg10 : arg10.IsWhole) (hc0 : k2_cond1 i = 1#1)
    (x0 : Vec F S3x16 .f32) (x1 : Vec F S1x1 .i32) (x2 : Vec F S16x3584 .bf16) (x3 : Vec F S16x3584 .bf16) (x4 : Vec F S16x3584 .bf16) (x5 : Vec F S12288x896 .fp8e4m3) (x6 : Vec F S12288x512 .fp8e5m2) :
    Σ' (L7 : List (View.Piece (Elt F) S896x512 .f32)), { L8 : List (View.Piece (Elt F) S3x16 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc2_dw i arg2 harg2 arg3 harg3 arg4 harg4 arg5 harg5 arg6 harg6 arg7 harg7 arg8 harg8 arg9 harg9 arg10 harg10) K } := by
  refine ⟨?_, ?_, fun E K => ?run⟩
  case run =>
    simp only [cc2_dw_eq_skeleton]; unfold cc2_dw_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

/-- The run's pieces for output 7 tile its block (1 store of `S896x512`, checked by the kernel's evaluation: Lib/Ring.lean `Piece.tiledL`, linear in the pieces, through a loop's `@[irreducible]` trip theorem too), so they cover it. -/
theorem cover2_A_7 (c : Dev nD) (i : grid2.Coords) (arg2 : Memref sig .tc .smem S3x16 .f32) (harg2 : arg2.IsWhole) (arg3 : Memref sig .tc .smem S1x1 .i32) (harg3 : arg3.IsWhole) (arg4 : Memref sig .tc .vmem S16x3584 .bf16) (harg4 : arg4.IsWhole) (arg5 : Memref sig .tc .vmem S16x3584 .bf16) (harg5 : arg5.IsWhole) (arg6 : Memref sig .tc .vmem S16x3584 .bf16) (harg6 : arg6.IsWhole) (arg7 : Memref sig .tc .vmem S12288x896 .fp8e4m3) (harg7 : arg7.IsWhole) (arg8 : Memref sig .tc .vmem S12288x512 .fp8e5m2) (harg8 : arg8.IsWhole) (arg9 : Memref sig .tc .vmem S896x512 .f32) (harg9 : arg9.IsWhole) (arg10 : Memref sig .tc .smem S3x16 .f32) (harg10 : arg10.IsWhole) (hc0 : k2_cond1 i = 1#1)
    (x0 : Vec F S3x16 .f32) (x1 : Vec F S1x1 .i32) (x2 : Vec F S16x3584 .bf16) (x3 : Vec F S16x3584 .bf16) (x4 : Vec F S16x3584 .bf16) (x5 : Vec F S12288x896 .fp8e4m3) (x6 : Vec F S12288x512 .fp8e5m2) (y : S896x512.Idx) :
    ∃ pc ∈ (kernelRun2_A c i arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun2_A c i arg2 harg2 arg3 harg3 arg4 harg4 arg5 harg5 arg6 harg6 arg7 harg7 arg8 harg8 arg9 harg9 arg10 harg10 hc0 x0 x1 x2 x3 x4 x5 x6).1 S896x512.size (by sl_kernel_rfl) y

/-- What the run leaves in output 7's staging buffer: its pieces read back over junk. -/
def out2_A_7 (c : Dev nD) (i : grid2.Coords) (arg2 : Memref sig .tc .smem S3x16 .f32) (harg2 : arg2.IsWhole) (arg3 : Memref sig .tc .smem S1x1 .i32) (harg3 : arg3.IsWhole) (arg4 : Memref sig .tc .vmem S16x3584 .bf16) (harg4 : arg4.IsWhole) (arg5 : Memref sig .tc .vmem S16x3584 .bf16) (harg5 : arg5.IsWhole) (arg6 : Memref sig .tc .vmem S16x3584 .bf16) (harg6 : arg6.IsWhole) (arg7 : Memref sig .tc .vmem S12288x896 .fp8e4m3) (harg7 : arg7.IsWhole) (arg8 : Memref sig .tc .vmem S12288x512 .fp8e5m2) (harg8 : arg8.IsWhole) (arg9 : Memref sig .tc .vmem S896x512 .f32) (harg9 : arg9.IsWhole) (arg10 : Memref sig .tc .smem S3x16 .f32) (harg10 : arg10.IsWhole) (hc0 : k2_cond1 i = 1#1)
    (x0 : Vec F S3x16 .f32) (x1 : Vec F S1x1 .i32) (x2 : Vec F S16x3584 .bf16) (x3 : Vec F S16x3584 .bf16) (x4 : Vec F S16x3584 .bf16) (x5 : Vec F S12288x896 .fp8e4m3) (x6 : Vec F S12288x512 .fp8e5m2) : Vec F S896x512 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 hc0 x0 x1 x2 x3 x4 x5 x6).1)

/-- The run's pieces for output 8 tile its block (48 stores of `S1x1`, checked by the kernel's evaluation: Lib/Ring.lean `Piece.tiledL`, linear in the pieces, through a loop's `@[irreducible]` trip theorem too), so they cover it. -/
theorem cover2_A_8 (c : Dev nD) (i : grid2.Coords) (arg2 : Memref sig .tc .smem S3x16 .f32) (harg2 : arg2.IsWhole) (arg3 : Memref sig .tc .smem S1x1 .i32) (harg3 : arg3.IsWhole) (arg4 : Memref sig .tc .vmem S16x3584 .bf16) (harg4 : arg4.IsWhole) (arg5 : Memref sig .tc .vmem S16x3584 .bf16) (harg5 : arg5.IsWhole) (arg6 : Memref sig .tc .vmem S16x3584 .bf16) (harg6 : arg6.IsWhole) (arg7 : Memref sig .tc .vmem S12288x896 .fp8e4m3) (harg7 : arg7.IsWhole) (arg8 : Memref sig .tc .vmem S12288x512 .fp8e5m2) (harg8 : arg8.IsWhole) (arg9 : Memref sig .tc .vmem S896x512 .f32) (harg9 : arg9.IsWhole) (arg10 : Memref sig .tc .smem S3x16 .f32) (harg10 : arg10.IsWhole) (hc0 : k2_cond1 i = 1#1)
    (x0 : Vec F S3x16 .f32) (x1 : Vec F S1x1 .i32) (x2 : Vec F S16x3584 .bf16) (x3 : Vec F S16x3584 .bf16) (x4 : Vec F S16x3584 .bf16) (x5 : Vec F S12288x896 .fp8e4m3) (x6 : Vec F S12288x512 .fp8e5m2) (y : S3x16.Idx) :
    ∃ pc ∈ (kernelRun2_A c i arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun2_A c i arg2 harg2 arg3 harg3 arg4 harg4 arg5 harg5 arg6 harg6 arg7 harg7 arg8 harg8 arg9 harg9 arg10 harg10 hc0 x0 x1 x2 x3 x4 x5 x6).2.1 S1x1.size (by sl_kernel_rfl) y

/-- What the run leaves in output 8's staging buffer: its pieces read back over junk. -/
def out2_A_8 (c : Dev nD) (i : grid2.Coords) (arg2 : Memref sig .tc .smem S3x16 .f32) (harg2 : arg2.IsWhole) (arg3 : Memref sig .tc .smem S1x1 .i32) (harg3 : arg3.IsWhole) (arg4 : Memref sig .tc .vmem S16x3584 .bf16) (harg4 : arg4.IsWhole) (arg5 : Memref sig .tc .vmem S16x3584 .bf16) (harg5 : arg5.IsWhole) (arg6 : Memref sig .tc .vmem S16x3584 .bf16) (harg6 : arg6.IsWhole) (arg7 : Memref sig .tc .vmem S12288x896 .fp8e4m3) (harg7 : arg7.IsWhole) (arg8 : Memref sig .tc .vmem S12288x512 .fp8e5m2) (harg8 : arg8.IsWhole) (arg9 : Memref sig .tc .vmem S896x512 .f32) (harg9 : arg9.IsWhole) (arg10 : Memref sig .tc .smem S3x16 .f32) (harg10 : arg10.IsWhole) (hc0 : k2_cond1 i = 1#1)
    (x0 : Vec F S3x16 .f32) (x1 : Vec F S1x1 .i32) (x2 : Vec F S16x3584 .bf16) (x3 : Vec F S16x3584 .bf16) (x4 : Vec F S16x3584 .bf16) (x5 : Vec F S12288x896 .fp8e4m3) (x6 : Vec F S12288x512 .fp8e5m2) : Vec F S3x16 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 hc0 x0 x1 x2 x3 x4 x5 x6).2.1)

-- (the run's proof term is large: the definition's epilogue — `abstractNestedProofs` — walks it past the default budget)
set_option maxHeartbeats 1048000 in
/-- What the body's stores leave in each output's staging memref, as pieces (last first) at a later grid point, which stores nothing into the history `x8`, WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_B (c : Dev nD) (i : grid2.Coords) (arg2 : Memref sig .tc .smem S3x16 .f32) (harg2 : arg2.IsWhole) (arg3 : Memref sig .tc .smem S1x1 .i32) (harg3 : arg3.IsWhole) (arg4 : Memref sig .tc .vmem S16x3584 .bf16) (harg4 : arg4.IsWhole) (arg5 : Memref sig .tc .vmem S16x3584 .bf16) (harg5 : arg5.IsWhole) (arg6 : Memref sig .tc .vmem S16x3584 .bf16) (harg6 : arg6.IsWhole) (arg7 : Memref sig .tc .vmem S12288x896 .fp8e4m3) (harg7 : arg7.IsWhole) (arg8 : Memref sig .tc .vmem S12288x512 .fp8e5m2) (harg8 : arg8.IsWhole) (arg9 : Memref sig .tc .vmem S896x512 .f32) (harg9 : arg9.IsWhole) (arg10 : Memref sig .tc .smem S3x16 .f32) (harg10 : arg10.IsWhole) (hc0 : ¬k2_cond1 i = 1#1)
    (x0 : Vec F S3x16 .f32) (x1 : Vec F S1x1 .i32) (x2 : Vec F S16x3584 .bf16) (x3 : Vec F S16x3584 .bf16) (x4 : Vec F S16x3584 .bf16) (x5 : Vec F S12288x896 .fp8e4m3) (x6 : Vec F S12288x512 .fp8e5m2) (x8 : Vec F S3x16 .f32) :
    { L7 : List (View.Piece (Elt F) S896x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare x8) -∗ K ⟨⟩))
          ⊢ wp frame (wpE (defs₀ (F := F)) Variants.none c none) E (cc2_dw i arg2 harg2 arg3 harg3 arg4 harg4 arg5 harg5 arg6 harg6 arg7 harg7 arg8 harg8 arg9 harg9 arg10 harg10) K } := by
  refine ⟨?_, fun E K => ?run⟩
  case run =>
    simp only [cc2_dw_eq_skeleton]; unfold cc2_dw_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; isplitr; · ipureintro; exact harg10.read_unread _
    iexact H8

/-- The run's pieces for output 7 tile its block (1 store of `S896x512`, checked by the kernel's evaluation: Lib/Ring.lean `Piece.tiledL`, linear in the pieces, through a loop's `@[irreducible]` trip theorem too), so they cover it. -/
theorem cover2_B_7 (c : Dev nD) (i : grid2.Coords) (arg2 : Memref sig .tc .smem S3x16 .f32) (harg2 : arg2.IsWhole) (arg3 : Memref sig .tc .smem S1x1 .i32) (harg3 : arg3.IsWhole) (arg4 : Memref sig .tc .vmem S16x3584 .bf16) (harg4 : arg4.IsWhole) (arg5 : Memref sig .tc .vmem S16x3584 .bf16) (harg5 : arg5.IsWhole) (arg6 : Memref sig .tc .vmem S16x3584 .bf16) (harg6 : arg6.IsWhole) (arg7 : Memref sig .tc .vmem S12288x896 .fp8e4m3) (harg7 : arg7.IsWhole) (arg8 : Memref sig .tc .vmem S12288x512 .fp8e5m2) (harg8 : arg8.IsWhole) (arg9 : Memref sig .tc .vmem S896x512 .f32) (harg9 : arg9.IsWhole) (arg10 : Memref sig .tc .smem S3x16 .f32) (harg10 : arg10.IsWhole) (hc0 : ¬k2_cond1 i = 1#1)
    (x0 : Vec F S3x16 .f32) (x1 : Vec F S1x1 .i32) (x2 : Vec F S16x3584 .bf16) (x3 : Vec F S16x3584 .bf16) (x4 : Vec F S16x3584 .bf16) (x5 : Vec F S12288x896 .fp8e4m3) (x6 : Vec F S12288x512 .fp8e5m2) (x8 : Vec F S3x16 .f32) (y : S896x512.Idx) :
    ∃ pc ∈ (kernelRun2_B c i arg2 harg2 arg3 harg3 arg4 harg4 arg5 harg5 arg6 harg6 arg7 harg7 arg8 harg8 arg9 harg9 arg10 harg10 hc0 x0 x1 x2 x3 x4 x5 x6 x8).1, y ∈ pc.1.set :=
  View.cover_of_tiledL (kernelRun2_B c i arg2 harg2 arg3 harg3 arg4 harg4 arg5 harg5 arg6 harg6 arg7 harg7 arg8 harg8 arg9 harg9 arg10 harg10 hc0 x0 x1 x2 x3 x4 x5 x6 x8).1 S896x512.size (by sl_kernel_rfl) y

/-- What the run leaves in output 7's staging buffer: its pieces read back over junk. -/
def out2_B_7 (c : Dev nD) (i : grid2.Coords) (arg2 : Memref sig .tc .smem S3x16 .f32) (harg2 : arg2.IsWhole) (arg3 : Memref sig .tc .smem S1x1 .i32) (harg3 : arg3.IsWhole) (arg4 : Memref sig .tc .vmem S16x3584 .bf16) (harg4 : arg4.IsWhole) (arg5 : Memref sig .tc .vmem S16x3584 .bf16) (harg5 : arg5.IsWhole) (arg6 : Memref sig .tc .vmem S16x3584 .bf16) (harg6 : arg6.IsWhole) (arg7 : Memref sig .tc .vmem S12288x896 .fp8e4m3) (harg7 : arg7.IsWhole) (arg8 : Memref sig .tc .vmem S12288x512 .fp8e5m2) (harg8 : arg8.IsWhole) (arg9 : Memref sig .tc .vmem S896x512 .f32) (harg9 : arg9.IsWhole) (arg10 : Memref sig .tc .smem S3x16 .f32) (harg10 : arg10.IsWhole) (hc0 : ¬k2_cond1 i = 1#1)
    (x0 : Vec F S3x16 .f32) (x1 : Vec F S1x1 .i32) (x2 : Vec F S16x3584 .bf16) (x3 : Vec F S16x3584 .bf16) (x4 : Vec F S16x3584 .bf16) (x5 : Vec F S12288x896 .fp8e4m3) (x6 : Vec F S12288x512 .fp8e5m2) (x8 : Vec F S3x16 .f32) : Vec F S896x512 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 hc0 x0 x1 x2 x3 x4 x5 x6 x8).1)

/-! ## What the outputs hold after each point -/

/-- The first grid point. -/
abbrev t2_0 : Fin cfg2.N := ⟨0, by rw [show cfg2.N = 28 from N_2]; omega⟩

/-- The history the first grid point stores, which every later point keeps. -/
def hist2 (c : Dev nD) : Vec F S3x16 .f32 :=
  out2_A_8 c (grid2.coords t2_0) (ms2_0 t2_0) (hs2_0 t2_0) (ms2_1 t2_0) (hs2_1 t2_0) (ms2_2 t2_0) (hs2_2 t2_0) (ms2_3 t2_0) (hs2_3 t2_0) (ms2_4 t2_0) (hs2_4 t2_0) (ms2_5 t2_0) (hs2_5 t2_0) (ms2_6 t2_0) (hs2_6 t2_0) (ms2_7 t2_0) (hs2_7 t2_0) (ms2_8 t2_0) (hs2_8 t2_0) ((hcond2_0 t2_0).mpr rfl) (iblk2 V c 0 t2_0) (iblk2 V c 1 t2_0) (iblk2 V c 2 t2_0) (iblk2 V c 3 t2_0) (iblk2 V c 4 t2_0) (iblk2 V c 5 t2_0) (iblk2 V c 6 t2_0)

/-- The block of the weight gradient that grid point `t` stores. -/
def dwAt2 (c : Dev nD) (t : Fin cfg2.N) : Vec F S896x512 .f32 :=
  if h : t.val % 28 = 0 then
    out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h) (iblk2 V c 0 t) (iblk2 V c 1 t) (iblk2 V c 2 t) (iblk2 V c 3 t) (iblk2 V c 4 t) (iblk2 V c 5 t) (iblk2 V c 6 t)
  else
    out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun hc => h ((hcond2_0 t).mp hc)) (iblk2 V c 0 t) (iblk2 V c 1 t) (iblk2 V c 2 t) (iblk2 V c 3 t) (iblk2 V c 4 t) (iblk2 V c 5 t) (iblk2 V c 6 t) (hist2 V c)

/-! ## The pipeline's proof data -/

/-- The proof data of pipeline 2 on core `c`: the arrays as the region finds them (`V`); after the body at
    point `t` each input's buffer at its block and the outputs' at `dwAt2` and `hist2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => dwAt2 V c t
    | ⟨8, _⟩ => hist2 V c
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = dwAt2 V c t := by dsimp only [dat2]
theorem after2_8 (c : Dev nD) (t : Fin cfg2.N) : (dat2 V c).after 8 t = hist2 V c := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- The history's buffer holds nothing stored at the first point only. -/
theorem fresh2_8 : ∀ n, n < cfg2.N → n ≠ 0 → cfg2.fresh 8 n = false
  | 0, _, h => absurd rfl h
  | n + 1, h, _ => by
    have h28 : n + 1 < 28 := lt_of_lt_of_eq h (show cfg2.N = 28 from N_2)
    have hn : n < cfg2.N := Nat.lt_of_succ_lt h
    have hf : (cfg2.win 8).flush ⟨n, hn⟩ = false :=
      Bool.eq_false_iff.mpr fun e => by have := (flush2_8 _).mp e; dsimp only at this; omega
    rw [Pipeline.Cfg.fresh_succ cfg2 8 n hn, hf, Bool.false_or]
    by_cases h0 : n = 0
    · subst h0
      have e : cfg2.idle 8 (cfg2.grid.coords ⟨0, hn⟩) = !(k2_cond1 (grid2.coords ⟨0, hn⟩) == 1#1) := rfl
      rw [e, (hcond2_0 ⟨0, hn⟩).mpr rfl]; rfl
    · rw [fresh2_8 n hn h0, Bool.and_false]

/-- At every later point the history's buffer holds what the first point stored. -/
theorem before2_8_B (c : Dev nD) (t : Fin cfg2.N) (h0 : ¬t.val % 28 = 0) (d) : (dat2 V c).before 8 t d = hist2 V c := by
  have hN : t.val < 28 := lt_of_lt_of_eq t.isLt (show cfg2.N = 28 from N_2)
  have hne : t.val ≠ 0 := fun e => h0 (by rw [e])
  rw [Pipeline.Dat.before_out_traj (dat2 V c) 8 rfl (fun _ _ => rfl) (fun t _ _ _ => by rw [after2_8, after2_8]) t.val t rfl d,
    fresh2_8 t.val t.isLt hne, if_neg Bool.false_ne_true, after2_8]

/-- What the pipeline asks of the history's buffer after a point: the stored history where it is live or written
    back, what the body found where it is idle. -/
abbrev leaves2_8 (c : Dev nD) (t : Fin cfg2.N) : sProp 𝕄 :=
  match cfg2.idle 8 (cfg2.grid.coords t) with
  | true =>
    match (cfg2.win 8).flush t with
    | false => iprop(∃ d, owns (c : Thread nD τ) (ms2_8 t) fullShare ((dat2 V c).before 8 t d))
    | true => owns (c : Thread nD τ) (ms2_8 t) fullShare ((dat2 V c).after 8 t)
  | false => owns (c : Thread nD τ) (ms2_8 t) fullShare ((dat2 V c).after 8 t)

/-- The buffer at the stored history is what the pipeline asks, at every point. -/
theorem leaves2_8_intro (c : Dev nD) (t : Fin cfg2.N) :
    owns (c : Thread nD τ) (ms2_8 t) fullShare (hist2 V c) ⊢ leaves2_8 V c t := by
  unfold leaves2_8
  by_cases h0 : t.val % 28 = 0
  · have e : cfg2.idle 8 (cfg2.grid.coords t) = false := by
      have e' : cfg2.idle 8 (cfg2.grid.coords t) = !(k2_cond1 (grid2.coords t) == 1#1) := rfl
      rw [e', (hcond2_0 t).mpr h0]; rfl
    rw [e]; dsimp only; rw [after2_8]
  · have e : cfg2.idle 8 (cfg2.grid.coords t) = true := by
      have e' : cfg2.idle 8 (cfg2.grid.coords t) = !(k2_cond1 (grid2.coords t) == 1#1) := rfl
      rw [e', beq_eq_false_iff_ne.mpr fun hc => h0 ((hcond2_0 t).mp hc)]; rfl
    rw [e]; dsimp only
    cases (cfg2.win 8).flush t
    · dsimp only
      simp only [before2_8_B V c t h0]
      iintro H; iexists (fun _ => Classical.choice inferInstance); iexact H
    · dsimp only; rw [after2_8]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ leaves2_8 V c t)

set_option maxHeartbeats 1600000 in
/-- The body at any point: the inputs' memrefs hold their blocks (`before2_W`), the history's buffer what the first
    point stored (`before2_8_B`); so the case's run applies; the invariant passes through unread; the core owes
    nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  have hN : t.val < 28 := lt_of_lt_of_eq t.isLt (show cfg2.N = 28 from N_2)
  by_cases h0 : t.val % 28 = 0
  · have e7t : dwAt2 V c t = _ := dif_pos h0
    have ht : t = t2_0 := Fin.ext (by show t.val = 0; omega)
    have e8t : hist2 V c = out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t) (iblk2 V c 6 t) := by subst ht; rfl
    rw [e7t]
    unfold out2_A_8 at e8t
    unfold out2_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_A_7 c _ _ _ _ _ _ _ _ _ _ _ _ _ _ _ _ _ _ _ ((hcond2_0 t).mpr h0) _ _ _ _ _ _ _)
    iapply (leaves2_8_intro V c t)
    rw [e8t]
    unfold owns; iexists _; isplitr
    swap; · iexact H8
    ipureintro; exact View.read_writes_of_cover _ _ _ _ _ (cover2_A_8 c _ _ _ _ _ _ _ _ _ _ _ _ _ _ _ _ _ _ _ ((hcond2_0 t).mpr h0) _ _ _ _ _ _ _)
  · have e7t : dwAt2 V c t = _ := dif_neg h0
    rw [e7t]
    simp only [before2_8_B V c t h0]
    unfold out2_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_B c (grid2.coords t) _ _ _ _ _ _ _ _ _ _ _ _ _ _ _ _ _ _ (fun hc => h0 ((hcond2_0 t).mp hc)) (iblk2 V c 0 t) (iblk2 V c 1 t) (iblk2 V c 2 t) (iblk2 V c 3 t) (iblk2 V c 4 t) (iblk2 V c 5 t) (iblk2 V c 6 t) (hist2 V c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    iintro ⟨H0, H1, H2, H3, H4, H5, H6, ⟨%e7, H7⟩, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_B_7 c _ _ _ _ _ _ _ _ _ _ _ _ _ _ _ _ _ _ _ (fun hc => h0 ((hcond2_0 t).mp hc)) _ _ _ _ _ _ _ _)
    iapply (leaves2_8_intro V c t)
    iexact H8

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.KernelIdeal.Hosts0.lean ====
/- The host operations around the calls: which buffers each stretch writes, and that no argument is among them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

end Cert.KernelIdeal.Gen

end
-- ==== Proof.KernelIdeal.Fold0.lean ====
/- The buffer contents between the calls, as a fold through the program from the launch memory. -/
module

public import proofs.«01_k».proof.Proof.KernelIdeal.Region0
public import proofs.«01_k».proof.Proof.KernelIdeal.Region1
public import proofs.«01_k».proof.Proof.KernelIdeal.Region2
public import proofs.«01_k».proof.Proof.KernelIdeal.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
end Cert.KernelIdeal.Gen

end
-- ==== Proof.KernelIdeal.State.lean ====
/- The proof data of the three pipelines and the thread state between the calls. -/
module

public import proofs.«01_k».proof.Proof.KernelIdeal.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

end Cert.KernelIdeal.Gen

end
-- ==== Proof.KernelIdeal.Record0.lean ====
/- The first call as a segment of the program, between the buffer contents before and after it. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record1.lean ====
/- The second call as a segment of the program, between the buffer contents before and after it. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdeal.Record2.lean ====
/- The third call as a segment of the program, between the buffer contents before and after it. -/
module

public import proofs.«01_k».proof.Proof.KernelIdeal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.KernelIdeal.Frame.lean ====
/- The whole program as its five segments, and its run: it terminates, leaves the arguments unchanged, and ends with every buffer at the contents of the fold. -/
module

public import proofs.«01_k».proof.Proof.KernelIdeal.Record0
public import proofs.«01_k».proof.Proof.KernelIdeal.Record1
public import proofs.«01_k».proof.Proof.KernelIdeal.Record2

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: at the compiled mesh, from any memory with zero counters, every weakly fair execution of @main
    terminates, nothing faulting, and every final state has every buffer that outlives the calls at the contents the
    fold `W4` gives it, and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the run terminates, the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun s h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (run m ρ)

end Cert.KernelIdeal.Gen

end
-- ==== Proof.Kernel.Frame.lean ====
/- The run of the kernel on machine words. The printed kernel and its ideal reading are the same program, so what is proved of the one, at any reading of the floats, is a statement about the other. -/
module

public import proofs.«01_k».proof.Defs
public import proofs.«01_k».proof.Proof.Gen.Kernel.Launch
public import proofs.«01_k».proof.Proof.KernelIdeal.Frame

@[expose] public section

set_option maxRecDepth 16384

noncomputable section

open Idealize.ShloMosaic Idealize.ShloMosaic.Tactic Idealize.ShloMosaic.TcCoe Idealize.SL.Sem

namespace Cert.KernelIdeal.Gen
variable {F : FTy → Type} [FloatOps F]
variable (m : (ℓ : Loc nD τ sig) → Buf (Elt F) ℓ) (ρ : Dev nD → PrngReg)

/-- The ideal reading runs to an end, leaves its five arguments as they were, and leaves every semaphore at zero. -/
def Framed : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- It does, from any memory and at any reading of the floats. -/
theorem framed : Framed m ρ := frame m ρ

end Cert.KernelIdeal.Gen

namespace Cert.Kernel.Gen
variable {F : FTy → Type} [FloatOps F]
variable (m : (ℓ : Loc nD τ sig) → Buf (Elt F) ℓ) (ρ : Dev nD → PrngReg)

/-- The same statement about the kernel as printed. -/
def Framed : Prop := θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The two statements are one: the two programs are the same text under two names. -/
theorem framed_eq : Cert.KernelIdeal.Gen.Framed (F := F) m ρ = Framed m ρ := by chain_rfl

/-- So the kernel as printed runs likewise. -/
theorem framed : Framed m ρ := framed_eq m ρ ▸ Cert.KernelIdeal.Gen.framed m ρ

/-- The statement written out. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := framed m ρ

end Cert.Kernel.Gen
-- ==== Proof.Value.Quant.lean ====
/- The kernel's quantiser in words of its own operations, at any reading of the floats: the largest entry of a history row, the exponent search, the scale and its inverse. -/
module

public import proofs.«01_k».proof.Proof.Gen.KernelIdeal.Skeleton
public import Idealize.ShloMosaic.Lib.Pipeline.ValueKit
public import Idealize.ShloMosaic.Lib.Pointwise

@[expose] public section
noncomputable section
namespace Cert.Quant
open Idealize.ShloMosaic Idealize.ShloMosaic.TcCoe Idealize.ShloMosaic.Tactic
open Cert.KernelIdeal (S3x16 S1x1)
variable {F : FTy → Type} [FloatOps F]

/-- The sixteen entries of a history row, folded by `maximumf` from the first to the last. -/
def chain (h : Fin 16 → F .f32) : F .f32 :=
  Scalar.maximumf (Scalar.maximumf (Scalar.maximumf (Scalar.maximumf (Scalar.maximumf (Scalar.maximumf (Scalar.maximumf
    (Scalar.maximumf (Scalar.maximumf (Scalar.maximumf (Scalar.maximumf (Scalar.maximumf (Scalar.maximumf (Scalar.maximumf
      (Scalar.maximumf (h 0) (h 1)) (h 2)) (h 3)) (h 4)) (h 5)) (h 6)) (h 7)) (h 8)) (h 9)) (h 10)) (h 11)) (h 12)) (h 13)) (h 14)) (h 15)

/-- `|a · c|` as the kernel takes it: the larger of the product and its negative. -/
def absq (c : BitVec 32) (a : F .f32) : F .f32 :=
  Scalar.maximumf (Scalar.mulf a (Scalar.ofBits .f32 c)) (Scalar.subf (Scalar.ofBits .f32 0x00000000#32) (Scalar.mulf a (Scalar.ofBits .f32 c)))

/-- One step of the search: the field raised by `s` if the power of two it then names is at most `v`. -/
def step (v : F .f32) (s f : BitVec 32) : BitVec 32 :=
  Scalar.select (Scalar.cmpf .oge v (Scalar.ofBits .f32 (Scalar.shli (Scalar.addi f s) 23#32))) (Scalar.addi f s) f

/-- The exponent field of `v`, found by bisection. -/
def field (v : F .f32) : BitVec 32 :=
  step v 1#32 (step v 2#32 (step v 4#32 (step v 8#32 (step v 16#32 (step v 32#32 (step v 64#32 (step v 128#32 0#32)))))))

/-- The scale's exponent: zero for a zero, subnormal or infinite value, else the field less 126. -/
def expo (v : F .f32) : BitVec 32 :=
  Scalar.select (Scalar.ori (Scalar.cmpi .eq (field v) 0#32) (Scalar.cmpi .eq (field v) 255#32)) 0#32 (Scalar.subi (field v) 126#32)

/-- The scale `2^e`. -/
def scale (v : F .f32) : F .f32 := Scalar.ofBits .f32 (Scalar.shli (Scalar.addi (expo v) 127#32) 23#32)

/-- The scale's inverse `2^-e`. -/
def inv (v : F .f32) : F .f32 := Scalar.ofBits .f32 (Scalar.shli (Scalar.addi (Scalar.subi 0#32 (expo v)) 127#32) 23#32)

theorem S1x1_pos : 0 < S1x1.numel := by decide

theorem rd_inb (r : Fin 3) (j : Fin 16) : ∀ k, (![r.val, j.val] : Fin 2 → ℕ) k + S1x1.size k ≤ S3x16.size k
  | ⟨0, _⟩ => Nat.succ_le_of_lt r.isLt
  | ⟨1, _⟩ => Nat.succ_le_of_lt j.isLt

/-- Entry `(r, j)` of the history as the kernel loads it from its scalar memory. -/
def rd (a : Memref Cert.KernelIdeal.sig Kind.tc Space.smem S3x16 EltTy.f32) (h : a.IsWhole) (x : Vec F S3x16 .f32) (r : Fin 3) (j : Fin 16) : F .f32 :=
  View.readAt (Elt F) a.view (Rect.unit (s := S3x16) ![r.val, j.val] S1x1.size (rd_inb r j)).toLoadRect (h.unread x) (Shape.Idx.first S1x1_pos)

/-- A scalar read of the history is its entry. -/
theorem rd_eq (a : Memref Cert.KernelIdeal.sig Kind.tc Space.smem S3x16 EltTy.f32) (h : a.IsWhole) (x : Vec F S3x16 .f32) (r : Fin 3) (j : Fin 16) :
    rd a h x r j = x (ix2 r j) := by
  unfold rd
  rw [View.readAt_eq_ld, h.read_unread]
  show x _ = x _
  congr 1
  funext k
  apply Fin.ext
  rw [Rect.idx_unit_val]
  match k with
  | ⟨0, _⟩ => rfl
  | ⟨1, _⟩ => rfl

/-- The scaled largest entry of history row `r`, the number both the scale and its inverse are read off. -/
def rowq (c : BitVec 32) (x : Vec F S3x16 .f32) (r : Fin 3) : F .f32 := absq c (chain fun j => x (ix2 r j))

/-- The scaled amax computed from sixteen scalar reads is the one computed from the history. -/
theorem rowq_rd (c : BitVec 32) (a : Memref Cert.KernelIdeal.sig Kind.tc Space.smem S3x16 EltTy.f32) (h : a.IsWhole) (x : Vec F S3x16 .f32) (r : Fin 3) :
    absq c (chain fun j => rd a h x r j) = rowq c x r := by
  unfold rowq; congr 2; funext j; exact rd_eq a h x r j

/-- An array scaled by `s` and held between `lo` and `hi`, before the cast to the eight-bit type. -/
def held {S : Shape} (hi lo : BitVec 32) (x : FVec F S .bf16) (s : F .f32) : FVec F S .f32 :=
  minimumf (broadcast S (Scalar.ofBits .f32 hi)) (maximumf (broadcast S (Scalar.ofBits .f32 lo)) (mulf (extf .f32 x (by decide)) (broadcast S s)))

/-- One grid point's contribution to a running amax: the tile's absolute values, sixteen rows at a time, folded into `acc`. -/
def amaxStep (acc : FVec F Cert.KernelIdeal.S16x3584 .bf16) (x : FVec F Cert.KernelIdeal.S512x3584 .bf16) : FVec F Cert.KernelIdeal.S16x3584 .bf16 :=
  Cert.KernelIdeal.Gen.k0_pay1 acc (absf x)

/-- The running amax before the first tile. -/
def amaxZero : FVec F Cert.KernelIdeal.S16x3584 .bf16 := Cert.KernelIdeal.Gen.k0_pay13

end Cert.Quant
-- ==== Proof.Value.Region0.lean ====
/- The values the first call (`quant_w`) leaves: what each grid point stores, in the quantiser's words. -/
module

public import proofs.«01_k».proof.Proof.KernelIdeal.Region0
public import proofs.«01_k».proof.Proof.Value.Quant

@[expose] public section
set_option maxRecDepth 16384
noncomputable section
namespace Cert.KernelIdeal.Gen
open Idealize.ShloMosaic Idealize.ShloMosaic.TcCoe Idealize.ShloMosaic.Tactic
open Cert.Quant
variable {F : FTy → Type} [FloatOps F]

theorem hz : (![0, 0] : Fin 2 → Nat) = fun _ => 0 := funext fun a => by fin_cases a <;> rfl

/-- Case A's codes: the tile scaled by the inverse scale and held. -/
theorem out0_A_2_eq (c : Dev nD) (i : grid0.Coords) (a1 h1 a2 h2 a3 h3 a4 h4 a5 h5) (hc0 : cond0_0 i) (x0 : Vec F S3x16 .f32) (x1 : Vec F S512x3584 .bf16) :
    out0_A_2 c i a1 h1 a2 h2 a3 h3 a4 h4 a5 h5 hc0 x0 x1 = truncf .fp8e4m3 (held 0x43E00000#32 0xC3E00000#32 x1 (inv (rowq 0x3B124925#32 x0 1))) bitsLt_fp8e4m3_f32 := by
  unfold out0_A_2
  rw [View.read_writes_eq_canon _ _ _ (cover0_A_2 c i a1 h1 a2 h2 a3 h3 a4 h4 a5 h5 hc0 x0 x1)]
  unfold kernelRun0_A
  dsimp only
  rw [View.canon_unit_zero hz, ← rowq_rd _ a1 h1, View.readAt_eq_ld, h2.read_unread, View.ld_unit_zero (S := S512x3584) hz]
  rfl

/-- Case A's scale. -/
theorem out0_A_3_eq (c : Dev nD) (i : grid0.Coords) (a1 h1 a2 h2 a3 h3 a4 h4 a5 h5) (hc0 : cond0_0 i) (x0 : Vec F S3x16 .f32) (x1 : Vec F S512x3584 .bf16) :
    out0_A_3 c i a1 h1 a2 h2 a3 h3 a4 h4 a5 h5 hc0 x0 x1 = fun _ => scale (rowq 0x3B124925#32 x0 1) := by
  unfold out0_A_3
  rw [View.read_writes_eq_canon _ _ _ (cover0_A_3 c i a1 h1 a2 h2 a3 h3 a4 h4 a5 h5 hc0 x0 x1)]
  unfold kernelRun0_A
  dsimp only
  rw [View.canon_unit_zero hz, ← rowq_rd _ a1 h1]
  rfl

/-- Case A's running amax. -/
theorem out0_A_4_eq (c : Dev nD) (i : grid0.Coords) (a1 h1 a2 h2 a3 h3 a4 h4 a5 h5) (hc0 : cond0_0 i) (x0 : Vec F S3x16 .f32) (x1 : Vec F S512x3584 .bf16) :
    out0_A_4 c i a1 h1 a2 h2 a3 h3 a4 h4 a5 h5 hc0 x0 x1 = amaxStep amaxZero x1 := by
  funext y
  frame_out
  unfold k0_pay14
  rw [shapeCast_self]
  rfl

/-- Case B's codes: the tile scaled by the inverse scale and held. -/
theorem out0_B_2_eq (c : Dev nD) (i : grid0.Coords) (a1 h1 a2 h2 a3 h3 a4 h4 a5 h5) (hc0 : ¬ cond0_0 i) (x0 : Vec F S3x16 .f32) (x1 : Vec F S512x3584 .bf16) (xo4 : Vec F S16x3584 .bf16) :
    out0_B_2 c i a1 h1 a2 h2 a3 h3 a4 h4 a5 h5 hc0 x0 x1 xo4 = truncf .fp8e4m3 (held 0x43E00000#32 0xC3E00000#32 x1 (inv (rowq 0x3B124925#32 x0 1))) bitsLt_fp8e4m3_f32 := by
  unfold out0_B_2
  rw [View.read_writes_eq_canon _ _ _ (cover0_B_2 c i a1 h1 a2 h2 a3 h3 a4 h4 a5 h5 hc0 x0 x1 xo4)]
  unfold kernelRun0_B
  dsimp only
  rw [View.canon_unit_zero hz, ← rowq_rd _ a1 h1, View.readAt_eq_ld, h2.read_unread, View.ld_unit_zero (S := S512x3584) hz]
  rfl

/-- Case B's scale. -/
theorem out0_B_3_eq (c : Dev nD) (i : grid0.Coords) (a1 h1 a2 h2 a3 h3 a4 h4 a5 h5) (hc0 : ¬ cond0_0 i) (x0 : Vec F S3x16 .f32) (x1 : Vec F S512x3584 .bf16) (xo4 : Vec F S16x3584 .bf16) :
    out0_B_3 c i a1 h1 a2 h2 a3 h3 a4 h4 a5 h5 hc0 x0 x1 xo4 = fun _ => scale (rowq 0x3B124925#32 x0 1) := by
  unfold out0_B_3
  rw [View.read_writes_eq_canon _ _ _ (cover0_B_3 c i a1 h1 a2 h2 a3 h3 a4 h4 a5 h5 hc0 x0 x1 xo4)]
  unfold kernelRun0_B
  dsimp only
  rw [View.canon_unit_zero hz, ← rowq_rd _ a1 h1]
  rfl

/-- Case B's running amax. -/
theorem out0_B_4_eq (c : Dev nD) (i : grid0.Coords) (a1 h1 a2 h2 a3 h3 a4 h4 a5 h5) (hc0 : ¬ cond0_0 i) (x0 : Vec F S3x16 .f32) (x1 : Vec F S512x3584 .bf16) (xo4 : Vec F S16x3584 .bf16) :
    out0_B_4 c i a1 h1 a2 h2 a3 h3 a4 h4 a5 h5 hc0 x0 x1 xo4 = amaxStep xo4 x1 := by
  funext y
  frame_out
  unfold k0_pay14
  rw [shapeCast_self]
  rfl

end Cert.KernelIdeal.Gen
-- ==== Proof.Value.Amax.lean ====
/- The running amax over the extended reals: when it is at most a bound. -/
module

public import proofs.«01_k».proof.Proof.Value.Quant
public import Idealize.ShloMosaic.Lib.IdealHost

@[expose] public section
set_option maxRecDepth 16384
noncomputable section
namespace Cert.Quant
open Idealize.ShloMosaic Idealize.ShloMosaic.TcCoe Idealize.ShloMosaic.Tactic
open Cert.KernelIdeal

/-- The bf16 word a maximum starts from is the least extended real. -/
theorem negInf_bf16 : Ideal.ofBits .bf16 0xFF80#16 = ⊥ := by simp [Ideal.ofBits, Ideal.ieee]

/-- The absolute value of an extended real as the programs take it. -/
def mag (x : EReal) : EReal := max x (-x)

/-- A magnitude is not negative. -/
theorem mag_nonneg (x : EReal) : 0 ≤ mag x := by
  rcases le_total 0 x with h | h
  · exact le_max_of_le_left h
  · exact le_max_of_le_right (EReal.neg_nonneg.mpr h)

/-- Row `16 q + r` of a tile of 512 rows. -/
abbrev tileRow (q : Fin 32) (r : Fin 16) : Fin 512 := ⟨q.val * 16 + r.val, by omega⟩

/-- Folding a tile of 512 rows to 16: the result is at most `b` exactly when the 32 entries folded together are. -/
theorem fold_le (v : FVec Ideal S512x3584 .bf16) (r : Fin 16) (j : Fin 3584) (b : EReal) :
    multiReduction (F := Ideal) .maximumf [0] S16x3584 (shapeCast S32x16x3584 v Gen.shapeCasts_S512x3584_S32x16x3584) 0xFF80#16 Gen.reduces_S32x16x3584_S16x3584 (.inr rfl) rfl (ix2 r j) ≤ b
      ↔ ∀ q : Fin 32, v (ix2 (tileRow q r) j) ≤ b := by
  have key := Ideal.multiReduction_maximumf_single (φ := .bf16) (shapeCast S32x16x3584 v Gen.shapeCasts_S512x3584_S32x16x3584) 0xFF80#16 Gen.reduces_S32x16x3584_S16x3584 (.inr rfl) rfl (ix2 r j)
  refine (iff_of_eq (congrArg (· ≤ b) key)).trans ?_
  show _ ≤ b ↔ _
  rw [Finset.fold_max_le]
  have e : (FloatOps.ofBits .bf16 0xFF80#16 : Ideal .bf16) = (⊥ : EReal) := negInf_bf16
  rw [e]
  constructor
  · intro h q
    have := h.2 q (Finset.mem_univ _)
    refine le_trans (le_of_eq ?_) this
    symm
    refine shapeCast_apply _ _ _ _ ?_
    rw [rowMajor_val2 _ 3584 rfl, rowMajor_val3 _ 57344 3584 (by decide) rfl]
    show (q.val * 16 + r.val) * 3584 + j.val = q.val * 57344 + r.val * 3584 + j.val
    omega
  · intro h
    refine ⟨bot_le, fun q _ => le_trans (le_of_eq ?_) (h q)⟩
    refine shapeCast_apply _ _ _ _ ?_
    rw [rowMajor_val2 _ 3584 rfl, rowMajor_val3 _ 57344 3584 (by decide) rfl]
    show (q.val * 16 + r.val) * 3584 + j.val = q.val * 57344 + r.val * 3584 + j.val
    omega

/-- One step of the running maximum is at most `b` exactly when the old value and the magnitudes of the 32 new entries are. -/
theorem amaxStep_le (acc : FVec Ideal S16x3584 .bf16) (x : FVec Ideal S512x3584 .bf16) (r : Fin 16) (j : Fin 3584) (b : EReal) :
    amaxStep acc x (ix2 r j) ≤ b ↔ acc (ix2 r j) ≤ b ∧ ∀ q : Fin 32, mag (x (ix2 (tileRow q r) j)) ≤ b := by
  exact max_le_iff.trans (and_congr_right fun _ => fold_le (absf x) r j b)

/-- The running maximum starts at zero. -/
theorem amaxZero_le (r : Fin 16) (j : Fin 3584) (b : EReal) : amaxZero (F := Ideal) (ix2 r j) ≤ b ↔ 0 ≤ b := by
  have e : amaxZero (F := Ideal) (ix2 r j) = (0 : EReal) := Ideal.ofBits_zero_bf16
  rw [e]

/-- A running amax over the points up to `n`, from zero: it is at most `b` when `b` is not negative and no entry met so far exceeds `b` in magnitude. -/
theorem amax_run_le {N : ℕ} (f : (n : ℕ) → n < N → FVec Ideal S16x3584 .bf16) (x : (n : ℕ) → n < N → FVec Ideal S512x3584 .bf16)
    (h0 : ∀ h, f 0 h = amaxStep amaxZero (x 0 h)) (hs : ∀ n h, f (n + 1) h = amaxStep (f n (by omega)) (x (n + 1) h)) (r : Fin 16) (j : Fin 3584) (b : EReal) :
    ∀ n h, f n h (ix2 r j) ≤ b ↔ 0 ≤ b ∧ ∀ (k : ℕ) (hk : k < N), k ≤ n → ∀ q : Fin 32, mag (x k hk (ix2 (tileRow q r) j)) ≤ b := by
  intro n
  induction n with
  | zero =>
    intro h
    rw [h0, amaxStep_le, amaxZero_le]
    refine and_congr_right fun _ => ⟨fun H k hk hk0 => ?_, fun H => H 0 h le_rfl⟩
    obtain rfl : k = 0 := by omega
    exact H
  | succ n ih =>
    intro h
    rw [hs, amaxStep_le, ih, and_assoc]
    refine and_congr_right fun _ => ⟨fun H k hk hkn => ?_, fun H => ⟨fun k hk hkn => H k hk (by omega), H (n + 1) h le_rfl⟩⟩
    rcases Nat.lt_or_ge n k with h' | h'
    · obtain rfl : k = n + 1 := by omega
      exact H.2
    · exact H.1 k hk h'

/-- The largest magnitude in an array. -/
def sup {S : Shape} (x : S.Idx → EReal) : EReal := ⨆ i, mag (x i)

/-- One code: the element times the inverse scale, held between `lo` and `hi`. -/
def code (hi lo : BitVec 32) (x s : EReal) : EReal := min (Ideal.ofBits .f32 hi) (max (Ideal.ofBits .f32 lo) (x * s))

/-- A code, at one element. -/
theorem code_of_held {S : Shape} (φ : FTy) (hφ : φ.bits < FTy.bits .f32) (hi lo : BitVec 32) (x : FVec Ideal S .bf16) (s : Ideal .f32) (i : S.Idx) :
    truncf φ (held hi lo x s) hφ i = code hi lo (x i) s := rfl

/-- The largest entry of row `r` of the history, scaled: the extended real both scale and inverse are read off. -/
def q (c : BitVec 32) (h : S3x16.Idx → EReal) (r : Fin 3) : EReal := rowq (F := Ideal) c h r

/-- The scale over the extended reals. -/
def scaleE (v : EReal) : EReal := scale (F := Ideal) v

/-- The inverse scale over the extended reals. -/
def invE (v : EReal) : EReal := inv (F := Ideal) v
end Cert.Quant
-- ==== Proof.Value.Arr0.lean ====
/- The arrays the first call (`quant_w`) leaves, over the extended reals, in terms of the arrays it finds. -/
module

public import proofs.«01_k».proof.Proof.Value.Region0
public import proofs.«01_k».proof.Proof.Value.Amax

@[expose] public section
set_option maxRecDepth 16384
noncomputable section
namespace Cert.KernelIdeal.Gen
open Idealize.ShloMosaic Idealize.ShloMosaic.TcCoe Idealize.ShloMosaic.Tactic
open Cert.Quant
open Idealize.ShloMosaic.Pipeline (Dat)

variable (V : (c : Dev nD) → (b : Ref sig .tc) → Buf (Elt Ideal) ((c : Thread nD τ).loc b))

section
variable {F : FTy → Type} [FloatOps F] (V : (c : Dev nD) → (b : Ref sig .tc) → Buf (Elt F) ((c : Thread nD τ).loc b))

/-- Every point stores its tile's codes. -/
theorem outs0_codes (c : Dev nD) (t : Fin cfg0.N) : (outsAt0 V c t.val t.isLt).1
    = truncf .fp8e4m3 (held 0x43E00000#32 0xC3E00000#32 (iblk0 V c 1 t : Vec F S512x3584 .bf16) (inv (rowq 0x3B124925#32 (iblk0 V c 0 t) 1))) bitsLt_fp8e4m3_f32 := by
  by_cases h0 : t.val % 7 = 0
  · rw [outsAt0_A V c t h0]; dsimp only; rw [out0_A_2_eq]
  · rw [outsAt0_B V c t h0]; dsimp only; rw [out0_B_2_eq]

/-- Every point stores the scale. -/
theorem outs0_scale (c : Dev nD) (t : Fin cfg0.N) : (outsAt0 V c t.val t.isLt).2.1 = fun _ => scale (rowq 0x3B124925#32 (iblk0 V c 0 t) 1) := by
  by_cases h0 : t.val % 7 = 0
  · rw [outsAt0_A V c t h0]; dsimp only; rw [out0_A_3_eq]
  · rw [outsAt0_B V c t h0]; dsimp only; rw [out0_B_3_eq]

/-- The running amax starts from zero at the first point, -/
theorem outs0_amax_zero (c : Dev nD) (h : 0 < cfg0.N) : (outsAt0 V c 0 h).2.2 = amaxStep amaxZero (iblk0 V c 1 ⟨0, h⟩) := by
  rw [show outsAt0 V c 0 h = outsAt0 V c (⟨0, h⟩ : Fin cfg0.N).val h from rfl, outsAt0_A V c ⟨0, h⟩ rfl]; dsimp only; rw [out0_A_4_eq]

/-- and goes on from the point before at every other. -/
theorem outs0_amax_succ (c : Dev nD) (n : ℕ) (h : n + 1 < cfg0.N) :
    (outsAt0 V c (n + 1) h).2.2 = amaxStep (outsAt0 V c n (by omega)).2.2 (iblk0 V c 1 ⟨n + 1, h⟩) := by
  have h7 : n + 1 < 7 := lt_of_lt_of_eq h N_0
  rw [show outsAt0 V c (n + 1) h = outsAt0 V c (⟨n + 1, h⟩ : Fin cfg0.N).val h from rfl, outsAt0_B V c ⟨n + 1, h⟩ (by show ¬ (n + 1) % 7 = 0; omega)]; dsimp only; rw [out0_B_4_eq]
  rfl
end

theorem idx0_0 : ∀ t, win0_0.index t = ![0, 0] := by decide +kernel
theorem idx0_1 : ∀ t, win0_1.index t = ![t.val, 0] := by decide +kernel
theorem idx0_2 : ∀ t, win0_2.index t = ![t.val, 0] := by decide +kernel

theorem iblk0_0_eq (c : Dev nD) (t : Fin cfg0.N) : iblk0 V c 0 t = V c main_arg3 := by
  funext y
  blk_ext [iblk0, idx0_0 t]

theorem iblk0_1_eq (c : Dev nD) (t : Fin cfg0.N) (r : Fin 512) (j : Fin 3584) : iblk0 V c 1 t (ix2 r j) = V c main_arg1 (ix2 ⟨t.val * 512 + r.val, by have := lt_of_lt_of_eq t.isLt N_0; omega⟩ j) := by
  blk_ext [iblk0, idx0_1 t]

/-- The codes of the weight. -/
theorem arr0_2 (c : Dev nD) (w : S3584x3584.Idx → EReal) (hw : w = V c main_arg1) (h : S3x16.Idx → EReal) (hh : h = V c main_arg3) :
    (dat0 V c).arrAt 2 cfg0.N = (fun i => code 0x43E00000#32 0xC3E00000#32 (w i) (invE (q 0x3B124925#32 h 1)) : S3584x3584.Idx → EReal) := by
  refine (dat0 V c).arrAt_eq_of_covers 2 _ (by decide +kernel) fun t hf y => ?_
  blk_simp
  rw [after0_2, outs0_codes, iblk0_0_eq V c t, ← hh, code_of_held]
  have e : iblk0 V c 1 t y = w ((win0_2.blk t).view.emb y) := by
    subst hw
    blk_ext [iblk0, idx0_1 t, idx0_2 t]
  rw [e]
  rfl

/-- The weight's scale. -/
theorem arr0_3 (c : Dev nD) (h : S3x16.Idx → EReal) (hh : h = V c main_arg3) :
    (dat0 V c).arrAt 3 cfg0.N = (fun _ => scaleE (q 0x3B124925#32 h 1) : S1x1.Idx → EReal) := by
  refine (dat0 V c).arrAt_eq_of_covers 3 _ (by decide +kernel) fun t hf y => ?_
  blk_simp
  rw [after0_3, outs0_scale, iblk0_0_eq V c t, ← hh]
  rfl

/-- The running amax after point `n`, against a bound. -/
theorem amax0_le (c : Dev nD) (n : ℕ) (hn : n < cfg0.N) (r : Fin 16) (j : Fin 3584) (b : EReal) :
    (outsAt0 V c n hn).2.2 (ix2 r j) ≤ b ↔ 0 ≤ b ∧ ∀ (k : ℕ) (hk : k < cfg0.N), k ≤ n → ∀ q : Fin 32, mag (iblk0 V c 1 ⟨k, hk⟩ (ix2 (tileRow q r) j)) ≤ b :=
  amax_run_le (fun n h => (outsAt0 V c n h).2.2) (fun n h => iblk0 V c 1 ⟨n, h⟩) (outs0_amax_zero V c) (outs0_amax_succ V c) r j b n hn

/-- The weight's amax array: at most `b` everywhere exactly when no weight exceeds `b` in magnitude. -/
theorem arr0_4 (c : Dev nD) (w : S3584x3584.Idx → EReal) (hw : w = V c main_arg1) (X : S16x3584.Idx → EReal) (hX : X = (dat0 V c).arrAt 4 cfg0.N) (b : EReal) :
    (∀ i, X i ≤ b) ↔ ∀ i, mag (w i) ≤ b := by
  have e : (dat0 V c).arrAt 4 cfg0.N = ((outsAt0 V c t0_6.val t0_6.isLt).2.2 : S16x3584.Idx → EReal) := by
    refine (dat0 V c).arrAt_eq_of_after_last 4 t0_6 (by decide +kernel) _ fun j => ?_
    blk_simp
    rw [after0_4]
  rw [hX, e]
  constructor
  · intro H i
    idx_vars i
    have h1 := ((amax0_le V c t0_6.val t0_6.isLt ⟨i0.val % 16, by omega⟩ i1 b).mp (H _)).2 (i0.val / 512) (by rw [show cfg0.N = 7 from N_0]; omega) (by show _ ≤ 6; omega) ⟨i0.val % 512 / 16, by omega⟩
    rw [iblk0_1_eq, ← hw] at h1
    convert h1 using 4
    apply Fin.ext
    show i0.val = i0.val / 512 * 512 + (i0.val % 512 / 16 * 16 + i0.val % 16)
    omega
  · intro H i
    idx_vars i
    refine (amax0_le V c t0_6.val t0_6.isLt i0 i1 b).mpr ⟨(mag_nonneg _).trans (H (ix2 0 0)), fun k hk _ q => ?_⟩
    rw [iblk0_1_eq, ← hw]
    exact H _
end Cert.KernelIdeal.Gen
-- ==== Proof.Value.Region1.lean ====
/- The values the second call (`fwd_dx`) leaves: what each grid point stores, in the quantiser's words. -/
module

public import proofs.«01_k».proof.Proof.KernelIdeal.Region1
public import proofs.«01_k».proof.Proof.Value.Region0

@[expose] public section
set_option maxRecDepth 16384
noncomputable section
namespace Cert.KernelIdeal.Gen
open Idealize.ShloMosaic Idealize.ShloMosaic.TcCoe Idealize.ShloMosaic.Tactic
open Cert.Quant
variable {F : FTy → Type} [FloatOps F]

/-- One column tile of `y`: the product of the code tile and a column tile of the weight's codes, scaled back. -/
def yPay (s1 s2 : F .f32) (X : FVec F S512x3584 .fp8e4m3) (W : FVec F S3584x512 .fp8e4m3) : FVec F S512x512 .bf16 :=
  truncf .bf16 (mulf (matmul dot_S512x3584_S3584x512_S512x512_1_0_0_1_n_n none X W (constant S512x512 .f32 0x00000000#32)) (broadcast S512x512 (Scalar.mulf s1 s2))) bitsLt_bf16_f32

/-- One column tile of `dx`: the product of the code tile and a row tile of the weight's codes transposed, scaled back. -/
def dxPay (s1 s2 : F .f32) (X : FVec F S512x3584 .fp8e5m2) (W : FVec F S512x3584 .fp8e4m3) : FVec F S512x512 .bf16 :=
  truncf .bf16 (mulf (matmul dot_S512x3584_S512x3584_S512x512_1_1_0_0_n_n none X W (constant S512x512 .f32 0x00000000#32)) (broadcast S512x512 (Scalar.mulf s1 s2))) bitsLt_bf16_f32

/-- The seven column tiles of `y`, the last stored first. -/
def yPieces (s1 s2 : F .f32) (X : FVec F S512x3584 .fp8e4m3) (W : Vec F S3584x3584 .fp8e4m3) : List (View.Piece (Elt F) S512x3584 .bf16) :=
  [⟨Rect.unit (s := S512x3584) ![0, 3072] ![512, 512] inb_S512x3584_S512x512_0_3072, yPay s1 s2 X (View.ld W (Rect.unit (s := S3584x3584) ![0, 3072] ![3584, 512] inb_S3584x3584_S3584x512_0_3072))⟩,
   ⟨Rect.unit (s := S512x3584) ![0, 2560] ![512, 512] inb_S512x3584_S512x512_0_2560, yPay s1 s2 X (View.ld W (Rect.unit (s := S3584x3584) ![0, 2560] ![3584, 512] inb_S3584x3584_S3584x512_0_2560))⟩,
   ⟨Rect.unit (s := S512x3584) ![0, 2048] ![512, 512] inb_S512x3584_S512x512_0_2048, yPay s1 s2 X (View.ld W (Rect.unit (s := S3584x3584) ![0, 2048] ![3584, 512] inb_S3584x3584_S3584x512_0_2048))⟩,
   ⟨Rect.unit (s := S512x3584) ![0, 1536] ![512, 512] inb_S512x3584_S512x512_0_1536, yPay s1 s2 X (View.ld W (Rect.unit (s := S3584x3584) ![0, 1536] ![3584, 512] inb_S3584x3584_S3584x512_0_1536))⟩,
   ⟨Rect.unit (s := S512x3584) ![0, 1024] ![512, 512] inb_S512x3584_S512x512_0_1024, yPay s1 s2 X (View.ld W (Rect.unit (s := S3584x3584) ![0, 1024] ![3584, 512] inb_S3584x3584_S3584x512_0_1024))⟩,
   ⟨Rect.unit (s := S512x3584) ![0, 512] ![512, 512] inb_S512x3584_S512x512_0_512, yPay s1 s2 X (View.ld W (Rect.unit (s := S3584x3584) ![0, 512] ![3584, 512] inb_S3584x3584_S3584x512_0_512))⟩,
   ⟨Rect.unit (s := S512x3584) ![0, 0] ![512, 512] inb_S512x3584_S512x512_0_0, yPay s1 s2 X (View.ld W (Rect.unit (s := S3584x3584) ![0, 0] ![3584, 512] inb_S3584x3584_S3584x512_0_0))⟩]

/-- The seven column tiles of `dx`, the last stored first. -/
def dxPieces (s1 s2 : F .f32) (X : FVec F S512x3584 .fp8e5m2) (W : Vec F S3584x3584 .fp8e4m3) : List (View.Piece (Elt F) S512x3584 .bf16) :=
  [⟨Rect.unit (s := S512x3584) ![0, 3072] ![512, 512] inb_S512x3584_S512x512_0_3072, dxPay s1 s2 X (View.ld W (Rect.unit (s := S3584x3584) ![3072, 0] ![512, 3584] inb_S3584x3584_S512x3584_3072_0))⟩,
   ⟨Rect.unit (s := S512x3584) ![0, 2560] ![512, 512] inb_S512x3584_S512x512_0_2560, dxPay s1 s2 X (View.ld W (Rect.unit (s := S3584x3584) ![2560, 0] ![512, 3584] inb_S3584x3584_S512x3584_2560_0))⟩,
   ⟨Rect.unit (s := S512x3584) ![0, 2048] ![512, 512] inb_S512x3584_S512x512_0_2048, dxPay s1 s2 X (View.ld W (Rect.unit (s := S3584x3584) ![2048, 0] ![512, 3584] inb_S3584x3584_S512x3584_2048_0))⟩,
   ⟨Rect.unit (s := S512x3584) ![0, 1536] ![512, 512] inb_S512x3584_S512x512_0_1536, dxPay s1 s2 X (View.ld W (Rect.unit (s := S3584x3584) ![1536, 0] ![512, 3584] inb_S3584x3584_S512x3584_1536_0))⟩,
   ⟨Rect.unit (s := S512x3584) ![0, 1024] ![512, 512] inb_S512x3584_S512x512_0_1024, dxPay s1 s2 X (View.ld W (Rect.unit (s := S3584x3584) ![1024, 0] ![512, 3584] inb_S3584x3584_S512x3584_1024_0))⟩,
   ⟨Rect.unit (s := S512x3584) ![0, 512] ![512, 512] inb_S512x3584_S512x512_0_512, dxPay s1 s2 X (View.ld W (Rect.unit (s := S3584x3584) ![512, 0] ![512, 3584] inb_S3584x3584_S512x3584_512_0))⟩,
   ⟨Rect.unit (s := S512x3584) ![0, 0] ![512, 512] inb_S512x3584_S512x512_0_0, dxPay s1 s2 X (View.ld W (Rect.unit (s := S3584x3584) ![0, 0] ![512, 3584] inb_S3584x3584_S512x3584_0_0))⟩]

theorem pay43_y (s1 s2 : F .f32) (X : FVec F S512x3584 .fp8e4m3) (W : FVec F S3584x512 .fp8e4m3) : k1_pay43 s1 s2 X W = yPay s1 s2 X W := by
  unfold k1_pay43; simp only [shapeCast_self]; rfl
theorem pay44_y (s1 s2 : F .f32) (X : FVec F S512x3584 .fp8e4m3) (W : FVec F S3584x512 .fp8e4m3) : k1_pay44 s1 s2 X W = yPay s1 s2 X W := by
  unfold k1_pay44; simp only [shapeCast_self]; rfl
theorem pay45_y (s1 s2 : F .f32) (X : FVec F S512x3584 .fp8e4m3) (W : FVec F S3584x512 .fp8e4m3) : k1_pay45 s1 s2 X W = yPay s1 s2 X W := by
  unfold k1_pay45; simp only [shapeCast_self]; rfl
theorem pay48_y (s1 s2 : F .f32) (X : FVec F S512x3584 .fp8e4m3) (W : FVec F S3584x512 .fp8e4m3) : k1_pay48 s1 s2 X W = yPay s1 s2 X W := by
  unfold k1_pay48; simp only [shapeCast_self]; rfl
theorem pay49_y (s1 s2 : F .f32) (X : FVec F S512x3584 .fp8e4m3) (W : FVec F S3584x512 .fp8e4m3) : k1_pay49 s1 s2 X W = yPay s1 s2 X W := by
  unfold k1_pay49; simp only [shapeCast_self]; rfl
theorem pay50_y (s1 s2 : F .f32) (X : FVec F S512x3584 .fp8e4m3) (W : FVec F S3584x512 .fp8e4m3) : k1_pay50 s1 s2 X W = yPay s1 s2 X W := by
  unfold k1_pay50; simp only [shapeCast_self]; rfl
theorem pay47_y (s1 s2 : F .f32) (X : FVec F S512x3584 .fp8e4m3) (W : FVec F S3584x512 .fp8e4m3) : k1_pay47 (k1_pay46 s1 s2 X W) = yPay s1 s2 X W := by
  unfold k1_pay47 k1_pay46; simp only [shapeCast_self]; rfl
theorem pay54_dx (s1 s2 : F .f32) (X : FVec F S512x3584 .fp8e5m2) (W : FVec F S512x3584 .fp8e4m3) : k1_pay54 s2 s1 X W = dxPay s1 s2 X W := by
  unfold k1_pay54; simp only [shapeCast_self]; rfl
theorem pay56_dx (s1 s2 : F .f32) (X : FVec F S512x3584 .fp8e5m2) (W : FVec F S512x3584 .fp8e4m3) : k1_pay56 s2 s1 X W = dxPay s1 s2 X W := by
  unfold k1_pay56; simp only [shapeCast_self]; rfl
theorem pay57_dx (s1 s2 : F .f32) (X : FVec F S512x3584 .fp8e5m2) (W : FVec F S512x3584 .fp8e4m3) : k1_pay57 s2 s1 X W = dxPay s1 s2 X W := by
  unfold k1_pay57; simp only [shapeCast_self]; rfl
theorem pay58_dx (s1 s2 : F .f32) (X : FVec F S512x3584 .fp8e5m2) (W : FVec F S512x3584 .fp8e4m3) : k1_pay58 s2 s1 X W = dxPay s1 s2 X W := by
  unfold k1_pay58; simp only [shapeCast_self]; rfl
theorem pay2_dx (s1 s2 : F .f32) (X : FVec F S512x3584 .fp8e5m2) (W : FVec F S512x3584 .fp8e4m3) : k1_pay2 s2 s1 X W = dxPay s1 s2 X W := by
  unfold k1_pay2; simp only [shapeCast_self]; rfl
theorem pay3_dx (s1 s2 : F .f32) (X : FVec F S512x3584 .fp8e5m2) (W : FVec F S512x3584 .fp8e4m3) : k1_pay3 s2 s1 X W = dxPay s1 s2 X W := by
  unfold k1_pay3; simp only [shapeCast_self]; rfl
theorem pay1_dx (s1 s2 : F .f32) (X : FVec F S512x3584 .fp8e5m2) (W : FVec F S512x3584 .fp8e4m3) : k1_pay1 (k1_pay59 X W) (k1_pay60 s2 s1) = dxPay s1 s2 X W := by
  unfold k1_pay1 k1_pay59 k1_pay60; simp only [shapeCast_self]; rfl

theorem pay40_eq (v : BitVec 32) (x : FVec F S512x3584 .bf16) : k1_pay40 v x = truncf .fp8e4m3 (held 0x43E00000#32 0xC3E00000#32 x (Scalar.ofBits .f32 (Scalar.shli (Scalar.addi (Scalar.subi 0#32 v) 127#32) 23#32))) bitsLt_fp8e4m3_f32 := by
  unfold k1_pay40 k1_pay39; simp only [shapeCast_self]; rfl
theorem pay52_eq (v : BitVec 32) (x : FVec F S512x3584 .bf16) : k1_pay52 v x = truncf .fp8e5m2 (held 0x47600000#32 0xC7600000#32 x (Scalar.ofBits .f32 (Scalar.shli (Scalar.addi (Scalar.subi 0#32 v) 127#32) 23#32))) bitsLt_fp8e5m2_f32 := by
  unfold k1_pay52 k1_pay51; simp only [shapeCast_self]; rfl
theorem pay41_eq (x : FVec F S512x3584 .bf16) (acc : FVec F S16x3584 .bf16) : k1_pay41 x acc = amaxStep acc x := by
  unfold k1_pay41 k1_pay39 amaxStep k0_pay1; simp only [shapeCast_self]
theorem pay53_eq (x : FVec F S512x3584 .bf16) (acc : FVec F S16x3584 .bf16) : k1_pay53 x acc = amaxStep acc x := by
  unfold k1_pay53 k1_pay51 amaxStep k0_pay1; simp only [shapeCast_self]

/-- Case A's codes of `x`. -/
theorem out1_A_4_eq (c : Dev nD) (i : grid1.Coords) (a1 h1 a2 h2 a3 h3 a4 h4 a5 h5 a6 h6 a7 h7 a8 h8 a9 h9 a10 h10 a11 h11 a12 h12) (hc0 : cond1_0 i) (x0 : Vec F S3x16 .f32) (x1 x2 : Vec F S512x3584 .bf16) (x3 : Vec F S3584x3584 .fp8e4m3) :
    out1_A_4 c i a1 h1 a2 h2 a3 h3 a4 h4 a5 h5 a6 h6 a7 h7 a8 h8 a9 h9 a10 h10 a11 h11 a12 h12 hc0 x0 x1 x2 x3 = truncf .fp8e4m3 (held 0x43E00000#32 0xC3E00000#32 x1 (inv (rowq 0x3B124925#32 x0 0))) bitsLt_fp8e4m3_f32 := by
  unfold out1_A_4
  rw [View.read_writes_eq_canon _ _ _ (cover1_A_4 c i a1 h1 a2 h2 a3 h3 a4 h4 a5 h5 a6 h6 a7 h7 a8 h8 a9 h9 a10 h10 a11 h11 a12 h12 hc0 x0 x1 x2 x3)]
  unfold kernelRun1_A
  dsimp only
  unfold kernelRun1_A.sl.H4_1
  rw [View.canon_unit_zero hz, ← rowq_rd _ a1 h1, View.readAt_eq_ld, h2.read_unread, View.ld_unit_zero (S := S512x3584) hz, pay40_eq]
  rfl

/-- Case A's codes of `dy`. -/
theorem out1_A_5_eq (c : Dev nD) (i : grid1.Coords) (a1 h1 a2 h2 a3 h3 a4 h4 a5 h5 a6 h6 a7 h7 a8 h8 a9 h9 a10 h10 a11 h11 a12 h12) (hc0 : cond1_0 i) (x0 : Vec F S3x16 .f32) (x1 x2 : Vec F S512x3584 .bf16) (x3 : Vec F S3584x3584 .fp8e4m3) :
    out1_A_5 c i a1 h1 a2 h2 a3 h3 a4 h4 a5 h5 a6 h6 a7 h7 a8 h8 a9 h9 a10 h10 a11 h11 a12 h12 hc0 x0 x1 x2 x3 = truncf .fp8e5m2 (held 0x47600000#32 0xC7600000#32 x2 (inv (rowq 0x37924925#32 x0 2))) bitsLt_fp8e5m2_f32 := by
  unfold out1_A_5
  rw [View.read_writes_eq_canon _ _ _ (cover1_A_5 c i a1 h1 a2 h2 a3 h3 a4 h4 a5 h5 a6 h6 a7 h7 a8 h8 a9 h9 a10 h10 a11 h11 a12 h12 hc0 x0 x1 x2 x3)]
  unfold kernelRun1_A
  dsimp only
  unfold kernelRun1_A.sl.H5_1
  rw [View.canon_unit_zero hz, ← rowq_rd _ a1 h1, View.readAt_eq_ld, h3.read_unread, View.ld_unit_zero (S := S512x3584) hz, pay52_eq]
  rfl

/-- Case A's scale of row 0. -/
theorem out1_A_8_eq (c : Dev nD) (i : grid1.Coords) (a1 h1 a2 h2 a3 h3 a4 h4 a5 h5 a6 h6 a7 h7 a8 h8 a9 h9 a10 h10 a11 h11 a12 h12) (hc0 : cond1_0 i) (x0 : Vec F S3x16 .f32) (x1 x2 : Vec F S512x3584 .bf16) (x3 : Vec F S3584x3584 .fp8e4m3) :
    out1_A_8 c i a1 h1 a2 h2 a3 h3 a4 h4 a5 h5 a6 h6 a7 h7 a8 h8 a9 h9 a10 h10 a11 h11 a12 h12 hc0 x0 x1 x2 x3 = fun _ => scale (rowq 0x3B124925#32 x0 0) := by
  unfold out1_A_8
  rw [View.read_writes_eq_canon _ _ _ (cover1_A_8 c i a1 h1 a2 h2 a3 h3 a4 h4 a5 h5 a6 h6 a7 h7 a8 h8 a9 h9 a10 h10 a11 h11 a12 h12 hc0 x0 x1 x2 x3)]
  unfold kernelRun1_A
  dsimp only
  rw [View.canon_unit_zero hz, ← rowq_rd _ a1 h1]
  rfl

/-- Case A's scale of row 2. -/
theorem out1_A_9_eq (c : Dev nD) (i : grid1.Coords) (a1 h1 a2 h2 a3 h3 a4 h4 a5 h5 a6 h6 a7 h7 a8 h8 a9 h9 a10 h10 a11 h11 a12 h12) (hc0 : cond1_0 i) (x0 : Vec F S3x16 .f32) (x1 x2 : Vec F S512x3584 .bf16) (x3 : Vec F S3584x3584 .fp8e4m3) :
    out1_A_9 c i a1 h1 a2 h2 a3 h3 a4 h4 a5 h5 a6 h6 a7 h7 a8 h8 a9 h9 a10 h10 a11 h11 a12 h12 hc0 x0 x1 x2 x3 = fun _ => scale (rowq 0x37924925#32 x0 2) := by
  unfold out1_A_9
  rw [View.read_writes_eq_canon _ _ _ (cover1_A_9 c i a1 h1 a2 h2 a3 h3 a4 h4 a5 h5 a6 h6 a7 h7 a8 h8 a9 h9 a10 h10 a11 h11 a12 h12 hc0 x0 x1 x2 x3)]
  unfold kernelRun1_A
  dsimp only
  rw [View.canon_unit_zero hz, ← rowq_rd _ a1 h1]
  rfl

/-- Case A's running amax. -/
theorem out1_A_10_eq (c : Dev nD) (i : grid1.Coords) (a1 h1 a2 h2 a3 h3 a4 h4 a5 h5 a6 h6 a7 h7 a8 h8 a9 h9 a10 h10 a11 h11 a12 h12) (hc0 : cond1_0 i) (x0 : Vec F S3x16 .f32) (x1 x2 : Vec F S512x3584 .bf16) (x3 : Vec F S3584x3584 .fp8e4m3) :
    out1_A_10 c i a1 h1 a2 h2 a3 h3 a4 h4 a5 h5 a6 h6 a7 h7 a8 h8 a9 h9 a10 h10 a11 h11 a12 h12 hc0 x0 x1 x2 x3 = amaxStep amaxZero x1 := by
  unfold out1_A_10
  rw [View.read_writes_eq_canon _ _ _ (cover1_A_10 c i a1 h1 a2 h2 a3 h3 a4 h4 a5 h5 a6 h6 a7 h7 a8 h8 a9 h9 a10 h10 a11 h11 a12 h12 hc0 x0 x1 x2 x3)]
  unfold kernelRun1_A
  dsimp only
  rw [View.canon_cons_unit_zero hz, View.readAt_eq_ld, h2.read_unread, View.ld_unit_zero (S := S512x3584) hz, pay41_eq]
  refine congrArg (fun z => amaxStep z x1) ?_; exact View.readCov_unit_zero (S := S16x3584) _ hz _ _

/-- Case A's running amax. -/
theorem out1_A_11_eq (c : Dev nD) (i : grid1.Coords) (a1 h1 a2 h2 a3 h3 a4 h4 a5 h5 a6 h6 a7 h7 a8 h8 a9 h9 a10 h10 a11 h11 a12 h12) (hc0 : cond1_0 i) (x0 : Vec F S3x16 .f32) (x1 x2 : Vec F S512x3584 .bf16) (x3 : Vec F S3584x3584 .fp8e4m3) :
    out1_A_11 c i a1 h1 a2 h2 a3 h3 a4 h4 a5 h5 a6 h6 a7 h7 a8 h8 a9 h9 a10 h10 a11 h11 a12 h12 hc0 x0 x1 x2 x3 = amaxStep amaxZero x2 := by
  unfold out1_A_11
  rw [View.read_writes_eq_canon _ _ _ (cover1_A_11 c i a1 h1 a2 h2 a3 h3 a4 h4 a5 h5 a6 h6 a7 h7 a8 h8 a9 h9 a10 h10 a11 h11 a12 h12 hc0 x0 x1 x2 x3)]
  unfold kernelRun1_A
  dsimp only
  rw [View.canon_cons_unit_zero hz, View.readAt_eq_ld, h3.read_unread, View.ld_unit_zero (S := S512x3584) hz, pay53_eq]
  refine congrArg (fun z => amaxStep z x2) ?_; exact View.readCov_unit_zero (S := S16x3584) _ hz _ _

/-- Case A's column tiles of `y`. -/
theorem out1_A_6_eq (c : Dev nD) (i : grid1.Coords) (a1 h1 a2 h2 a3 h3 a4 h4 a5 h5 a6 h6 a7 h7 a8 h8 a9 h9 a10 h10 a11 h11 a12 h12) (hc0 : cond1_0 i) (x0 : Vec F S3x16 .f32) (x1 x2 : Vec F S512x3584 .bf16) (x3 : Vec F S3584x3584 .fp8e4m3) :
    out1_A_6 c i a1 h1 a2 h2 a3 h3 a4 h4 a5 h5 a6 h6 a7 h7 a8 h8 a9 h9 a10 h10 a11 h11 a12 h12 hc0 x0 x1 x2 x3 = View.canon (yPieces (scale (rowq 0x3B124925#32 x0 0)) (scale (rowq 0x3B124925#32 x0 1)) (truncf .fp8e4m3 (held 0x43E00000#32 0xC3E00000#32 x1 (inv (rowq 0x3B124925#32 x0 0))) bitsLt_fp8e4m3_f32) x3) := by
  have ev273 : kernelRun1_A.sl.v273 c a1 h1 a2 h2 a5 x0 x1 = truncf .fp8e4m3 (held 0x43E00000#32 0xC3E00000#32 x1 (inv (rowq 0x3B124925#32 x0 0))) bitsLt_fp8e4m3_f32 := by
    refine (View.readCov_unit_zero (S := S512x3584) _ hz _ _).trans ?_
    rw [← rowq_rd _ a1 h1, View.readAt_eq_ld, h2.read_unread, View.ld_unit_zero (S := S512x3584) hz, pay40_eq]
    rfl
  have es : kernelRun1_A.sl.r_55 c a1 h1 x0 = scale (rowq 0x3B124925#32 x0 0) := by rw [← rowq_rd _ a1 h1]; rfl
  have et : kernelRun1_A.sl.r_56 c a1 h1 x0 = scale (rowq 0x3B124925#32 x0 1) := by rw [← rowq_rd _ a1 h1]; rfl
  unfold out1_A_6
  rw [View.read_writes_eq_canon _ _ _ (cover1_A_6 c i a1 h1 a2 h2 a3 h3 a4 h4 a5 h5 a6 h6 a7 h7 a8 h8 a9 h9 a10 h10 a11 h11 a12 h12 hc0 x0 x1 x2 x3)]
  unfold kernelRun1_A
  dsimp only
  unfold kernelRun1_A.sl.r_60 kernelRun1_A.sl.r_61 kernelRun1_A.sl.r_62 k1_pay42 yPieces
  simp only [ev273, es, et, shapeCast_self, pay43_y, pay44_y, pay45_y, pay47_y, pay48_y, pay49_y, pay50_y, View.readAt_eq_ld, h4.read_unread]
  first | done | rfl

/-- Case A's column tiles of `dx`. -/
theorem out1_A_7_eq (c : Dev nD) (i : grid1.Coords) (a1 h1 a2 h2 a3 h3 a4 h4 a5 h5 a6 h6 a7 h7 a8 h8 a9 h9 a10 h10 a11 h11 a12 h12) (hc0 : cond1_0 i) (x0 : Vec F S3x16 .f32) (x1 x2 : Vec F S512x3584 .bf16) (x3 : Vec F S3584x3584 .fp8e4m3) :
    out1_A_7 c i a1 h1 a2 h2 a3 h3 a4 h4 a5 h5 a6 h6 a7 h7 a8 h8 a9 h9 a10 h10 a11 h11 a12 h12 hc0 x0 x1 x2 x3 = View.canon (dxPieces (scale (rowq 0x37924925#32 x0 2)) (scale (rowq 0x3B124925#32 x0 1)) (truncf .fp8e5m2 (held 0x47600000#32 0xC7600000#32 x2 (inv (rowq 0x37924925#32 x0 2))) bitsLt_fp8e5m2_f32) x3) := by
  have ev365 : kernelRun1_A.sl.v365 c a1 h1 a3 h3 a6 x0 x2 = truncf .fp8e5m2 (held 0x47600000#32 0xC7600000#32 x2 (inv (rowq 0x37924925#32 x0 2))) bitsLt_fp8e5m2_f32 := by
    refine (View.readCov_unit_zero (S := S512x3584) _ hz _ _).trans ?_
    rw [← rowq_rd _ a1 h1, View.readAt_eq_ld, h3.read_unread, View.ld_unit_zero (S := S512x3584) hz, pay52_eq]
    rfl
  have ev415 : kernelRun1_A.sl.v415 c a1 h1 a3 h3 a6 x0 x2 = truncf .fp8e5m2 (held 0x47600000#32 0xC7600000#32 x2 (inv (rowq 0x37924925#32 x0 2))) bitsLt_fp8e5m2_f32 := by
    refine (View.readCov_unit_zero (S := S512x3584) _ hz _ _).trans ?_
    rw [← rowq_rd _ a1 h1, View.readAt_eq_ld, h3.read_unread, View.ld_unit_zero (S := S512x3584) hz, pay52_eq]
    rfl
  have es : kernelRun1_A.sl.r_59 c a1 h1 x0 = scale (rowq 0x37924925#32 x0 2) := by rw [← rowq_rd _ a1 h1]; rfl
  have et : kernelRun1_A.sl.r_56 c a1 h1 x0 = scale (rowq 0x3B124925#32 x0 1) := by rw [← rowq_rd _ a1 h1]; rfl
  unfold out1_A_7
  rw [View.read_writes_eq_canon _ _ _ (cover1_A_7 c i a1 h1 a2 h2 a3 h3 a4 h4 a5 h5 a6 h6 a7 h7 a8 h8 a9 h9 a10 h10 a11 h11 a12 h12 hc0 x0 x1 x2 x3)]
  unfold kernelRun1_A
  dsimp only
  unfold kernelRun1_A.sl.r_63 kernelRun1_A.sl.r_64 kernelRun1_A.sl.r_65 k1_pay55 dxPieces
  simp only [ev365, ev415, es, et, shapeCast_self, pay54_dx, pay56_dx, pay57_dx, pay58_dx, pay1_dx, pay2_dx, pay3_dx, View.readAt_eq_ld, h4.read_unread]
  first | done | rfl

/-- Case B's codes of `x`. -/
theorem out1_B_4_eq (c : Dev nD) (i : grid1.Coords) (a1 h1 a2 h2 a3 h3 a4 h4 a5 h5 a6 h6 a7 h7 a8 h8 a9 h9 a10 h10 a11 h11 a12 h12) (hc0 : ¬ cond1_0 i) (x0 : Vec F S3x16 .f32) (x1 x2 : Vec F S512x3584 .bf16) (x3 : Vec F S3584x3584 .fp8e4m3) (xo10 : Vec F S16x3584 .bf16) (xo11 : Vec F S16x3584 .bf16) :
    out1_B_4 c i a1 h1 a2 h2 a3 h3 a4 h4 a5 h5 a6 h6 a7 h7 a8 h8 a9 h9 a10 h10 a11 h11 a12 h12 hc0 x0 x1 x2 x3 xo10 xo11 = truncf .fp8e4m3 (held 0x43E00000#32 0xC3E00000#32 x1 (inv (rowq 0x3B124925#32 x0 0))) bitsLt_fp8e4m3_f32 := by
  unfold out1_B_4
  rw [View.read_writes_eq_canon _ _ _ (cover1_B_4 c i a1 h1 a2 h2 a3 h3 a4 h4 a5 h5 a6 h6 a7 h7 a8 h8 a9 h9 a10 h10 a11 h11 a12 h12 hc0 x0 x1 x2 x3 xo10 xo11)]
  unfold kernelRun1_B
  dsimp only
  unfold kernelRun1_B.sl.H4_1
  rw [View.canon_unit_zero hz, ← rowq_rd _ a1 h1, View.readAt_eq_ld, h2.read_unread, View.ld_unit_zero (S := S512x3584) hz, pay40_eq]
  rfl

/-- Case B's codes of `dy`. -/
theorem out1_B_5_eq (c : Dev nD) (i : grid1.Coords) (a1 h1 a2 h2 a3 h3 a4 h4 a5 h5 a6 h6 a7 h7 a8 h8 a9 h9 a10 h10 a11 h11 a12 h12) (hc0 : ¬ cond1_0 i) (x0 : Vec F S3x16 .f32) (x1 x2 : Vec F S512x3584 .bf16) (x3 : Vec F S3584x3584 .fp8e4m3) (xo10 : Vec F S16x3584 .bf16) (xo11 : Vec F S16x3584 .bf16) :
    out1_B_5 c i a1 h1 a2 h2 a3 h3 a4 h4 a5 h5 a6 h6 a7 h7 a8 h8 a9 h9 a10 h10 a11 h11 a12 h12 hc0 x0 x1 x2 x3 xo10 xo11 = truncf .fp8e5m2 (held 0x47600000#32 0xC7600000#32 x2 (inv (rowq 0x37924925#32 x0 2))) bitsLt_fp8e5m2_f32 := by
  unfold out1_B_5
  rw [View.read_writes_eq_canon _ _ _ (cover1_B_5 c i a1 h1 a2 h2 a3 h3 a4 h4 a5 h5 a6 h6 a7 h7 a8 h8 a9 h9 a10 h10 a11 h11 a12 h12 hc0 x0 x1 x2 x3 xo10 xo11)]
  unfold kernelRun1_B
  dsimp only
  unfold kernelRun1_B.sl.H5_1
  rw [View.canon_unit_zero hz, ← rowq_rd _ a1 h1, View.readAt_eq_ld, h3.read_unread, View.ld_unit_zero (S := S512x3584) hz, pay52_eq]
  rfl

/-- Case B's scale of row 0. -/
theorem out1_B_8_eq (c : Dev nD) (i : grid1.Coords) (a1 h1 a2 h2 a3 h3 a4 h4 a5 h5 a6 h6 a7 h7 a8 h8 a9 h9 a10 h10 a11 h11 a12 h12) (hc0 : ¬ cond1_0 i) (x0 : Vec F S3x16 .f32) (x1 x2 : Vec F S512x3584 .bf16) (x3 : Vec F S3584x3584 .fp8e4m3) (xo10 : Vec F S16x3584 .bf16) (xo11 : Vec F S16x3584 .bf16) :
    out1_B_8 c i a1 h1 a2 h2 a3 h3 a4 h4 a5 h5 a6 h6 a7 h7 a8 h8 a9 h9 a10 h10 a11 h11 a12 h12 hc0 x0 x1 x2 x3 xo10 xo11 = fun _ => scale (rowq 0x3B124925#32 x0 0) := by
  unfold out1_B_8
  rw [View.read_writes_eq_canon _ _ _ (cover1_B_8 c i a1 h1 a2 h2 a3 h3 a4 h4 a5 h5 a6 h6 a7 h7 a8 h8 a9 h9 a10 h10 a11 h11 a12 h12 hc0 x0 x1 x2 x3 xo10 xo11)]
  unfold kernelRun1_B
  dsimp only
  rw [View.canon_unit_zero hz, ← rowq_rd _ a1 h1]
  rfl

/-- Case B's scale of row 2. -/
theorem out1_B_9_eq (c : Dev nD) (i : grid1.Coords) (a1 h1 a2 h2 a3 h3 a4 h4 a5 h5 a6 h6 a7 h7 a8 h8 a9 h9 a10 h10 a11 h11 a12 h12) (hc0 : ¬ cond1_0 i) (x0 : Vec F S3x16 .f32) (x1 x2 : Vec F S512x3584 .bf16) (x3 : Vec F S3584x3584 .fp8e4m3) (xo10 : Vec F S16x3584 .bf16) (xo11 : Vec F S16x3584 .bf16) :
    out1_B_9 c i a1 h1 a2 h2 a3 h3 a4 h4 a5 h5 a6 h6 a7 h7 a8 h8 a9 h9 a10 h10 a11 h11 a12 h12 hc0 x0 x1 x2 x3 xo10 xo11 = fun _ => scale (rowq 0x37924925#32 x0 2) := by
  unfold out1_B_9
  rw [View.read_writes_eq_canon _ _ _ (cover1_B_9 c i a1 h1 a2 h2 a3 h3 a4 h4 a5 h5 a6 h6 a7 h7 a8 h8 a9 h9 a10 h10 a11 h11 a12 h12 hc0 x0 x1 x2 x3 xo10 xo11)]
  unfold kernelRun1_B
  dsimp only
  rw [View.canon_unit_zero hz, ← rowq_rd _ a1 h1]
  rfl

/-- Case B's running amax. -/
theorem out1_B_10_eq (c : Dev nD) (i : grid1.Coords) (a1 h1 a2 h2 a3 h3 a4 h4 a5 h5 a6 h6 a7 h7 a8 h8 a9 h9 a10 h10 a11 h11 a12 h12) (hc0 : ¬ cond1_0 i) (x0 : Vec F S3x16 .f32) (x1 x2 : Vec F S512x3584 .bf16) (x3 : Vec F S3584x3584 .fp8e4m3) (xo10 : Vec F S16x3584 .bf16) (xo11 : Vec F S16x3584 .bf16) :
    out1_B_10 c i a1 h1 a2 h2 a3 h3 a4 h4 a5 h5 a6 h6 a7 h7 a8 h8 a9 h9 a10 h10 a11 h11 a12 h12 hc0 x0 x1 x2 x3 xo10 xo11 = amaxStep xo10 x1 := by
  unfold out1_B_10
  rw [View.read_writes_eq_canon _ _ _ (cover1_B_10 c i a1 h1 a2 h2 a3 h3 a4 h4 a5 h5 a6 h6 a7 h7 a8 h8 a9 h9 a10 h10 a11 h11 a12 h12 hc0 x0 x1 x2 x3 xo10 xo11)]
  unfold kernelRun1_B
  dsimp only
  rw [View.canon_cons_unit_zero hz, View.readAt_eq_ld, h2.read_unread, View.ld_unit_zero (S := S512x3584) hz, pay41_eq, View.readAt_eq_ld, h11.read_unread, View.ld_unit_zero (S := S16x3584) hz]
  try rfl

/-- Case B's running amax. -/
theorem out1_B_11_eq (c : Dev nD) (i : grid1.Coords) (a1 h1 a2 h2 a3 h3 a4 h4 a5 h5 a6 h6 a7 h7 a8 h8 a9 h9 a10 h10 a11 h11 a12 h12) (hc0 : ¬ cond1_0 i) (x0 : Vec F S3x16 .f32) (x1 x2 : Vec F S512x3584 .bf16) (x3 : Vec F S3584x3584 .fp8e4m3) (xo10 : Vec F S16x3584 .bf16) (xo11 : Vec F S16x3584 .bf16) :
    out1_B_11 c i a1 h1 a2 h2 a3 h3 a4 h4 a5 h5 a6 h6 a7 h7 a8 h8 a9 h9 a10 h10 a11 h11 a12 h12 hc0 x0 x1 x2 x3 xo10 xo11 = amaxStep xo11 x2 := by
  unfold out1_B_11
  rw [View.read_writes_eq_canon _ _ _ (cover1_B_11 c i a1 h1 a2 h2 a3 h3 a4 h4 a5 h5 a6 h6 a7 h7 a8 h8 a9 h9 a10 h10 a11 h11 a12 h12 hc0 x0 x1 x2 x3 xo10 xo11)]
  unfold kernelRun1_B
  dsimp only
  rw [View.canon_cons_unit_zero hz, View.readAt_eq_ld, h3.read_unread, View.ld_unit_zero (S := S512x3584) hz, pay53_eq, View.readAt_eq_ld, h12.read_unread, View.ld_unit_zero (S := S16x3584) hz]
  try rfl

/-- Case B's column tiles of `y`. -/
theorem out1_B_6_eq (c : Dev nD) (i : grid1.Coords) (a1 h1 a2 h2 a3 h3 a4 h4 a5 h5 a6 h6 a7 h7 a8 h8 a9 h9 a10 h10 a11 h11 a12 h12) (hc0 : ¬ cond1_0 i) (x0 : Vec F S3x16 .f32) (x1 x2 : Vec F S512x3584 .bf16) (x3 : Vec F S3584x3584 .fp8e4m3) (xo10 : Vec F S16x3584 .bf16) (xo11 : Vec F S16x3584 .bf16) :
    out1_B_6 c i a1 h1 a2 h2 a3 h3 a4 h4 a5 h5 a6 h6 a7 h7 a8 h8 a9 h9 a10 h10 a11 h11 a12 h12 hc0 x0 x1 x2 x3 xo10 xo11 = View.canon (yPieces (scale (rowq 0x3B124925#32 x0 0)) (scale (rowq 0x3B124925#32 x0 1)) (truncf .fp8e4m3 (held 0x43E00000#32 0xC3E00000#32 x1 (inv (rowq 0x3B124925#32 x0 0))) bitsLt_fp8e4m3_f32) x3) := by
  have ev273 : kernelRun1_B.sl.v273 c a1 h1 a2 h2 a5 x0 x1 = truncf .fp8e4m3 (held 0x43E00000#32 0xC3E00000#32 x1 (inv (rowq 0x3B124925#32 x0 0))) bitsLt_fp8e4m3_f32 := by
    refine (View.readCov_unit_zero (S := S512x3584) _ hz _ _).trans ?_
    rw [← rowq_rd _ a1 h1, View.readAt_eq_ld, h2.read_unread, View.ld_unit_zero (S := S512x3584) hz, pay40_eq]
    rfl
  have es : kernelRun1_B.sl.r_55 c a1 h1 x0 = scale (rowq 0x3B124925#32 x0 0) := by rw [← rowq_rd _ a1 h1]; rfl
  have et : kernelRun1_B.sl.r_56 c a1 h1 x0 = scale (rowq 0x3B124925#32 x0 1) := by rw [← rowq_rd _ a1 h1]; rfl
  unfold out1_B_6
  rw [View.read_writes_eq_canon _ _ _ (cover1_B_6 c i a1 h1 a2 h2 a3 h3 a4 h4 a5 h5 a6 h6 a7 h7 a8 h8 a9 h9 a10 h10 a11 h11 a12 h12 hc0 x0 x1 x2 x3 xo10 xo11)]
  unfold kernelRun1_B
  dsimp only
  unfold kernelRun1_B.sl.r_60 kernelRun1_B.sl.r_61 kernelRun1_B.sl.r_62 k1_pay42 yPieces
  simp only [ev273, es, et, shapeCast_self, pay43_y, pay44_y, pay45_y, pay47_y, pay48_y, pay49_y, pay50_y, View.readAt_eq_ld, h4.read_unread]
  first | done | rfl

/-- Case B's column tiles of `dx`. -/
theorem out1_B_7_eq (c : Dev nD) (i : grid1.Coords) (a1 h1 a2 h2 a3 h3 a4 h4 a5 h5 a6 h6 a7 h7 a8 h8 a9 h9 a10 h10 a11 h11 a12 h12) (hc0 : ¬ cond1_0 i) (x0 : Vec F S3x16 .f32) (x1 x2 : Vec F S512x3584 .bf16) (x3 : Vec F S3584x3584 .fp8e4m3) (xo10 : Vec F S16x3584 .bf16) (xo11 : Vec F S16x3584 .bf16) :
    out1_B_7 c i a1 h1 a2 h2 a3 h3 a4 h4 a5 h5 a6 h6 a7 h7 a8 h8 a9 h9 a10 h10 a11 h11 a12 h12 hc0 x0 x1 x2 x3 xo10 xo11 = View.canon (dxPieces (scale (rowq 0x37924925#32 x0 2)) (scale (rowq 0x3B124925#32 x0 1)) (truncf .fp8e5m2 (held 0x47600000#32 0xC7600000#32 x2 (inv (rowq 0x37924925#32 x0 2))) bitsLt_fp8e5m2_f32) x3) := by
  have ev365 : kernelRun1_B.sl.v365 c a1 h1 a3 h3 a6 x0 x2 = truncf .fp8e5m2 (held 0x47600000#32 0xC7600000#32 x2 (inv (rowq 0x37924925#32 x0 2))) bitsLt_fp8e5m2_f32 := by
    refine (View.readCov_unit_zero (S := S512x3584) _ hz _ _).trans ?_
    rw [← rowq_rd _ a1 h1, View.readAt_eq_ld, h3.read_unread, View.ld_unit_zero (S := S512x3584) hz, pay52_eq]
    rfl
  have ev415 : kernelRun1_B.sl.v415 c a1 h1 a3 h3 a6 x0 x2 = truncf .fp8e5m2 (held 0x47600000#32 0xC7600000#32 x2 (inv (rowq 0x37924925#32 x0 2))) bitsLt_fp8e5m2_f32 := by
    refine (View.readCov_unit_zero (S := S512x3584) _ hz _ _).trans ?_
    rw [← rowq_rd _ a1 h1, View.readAt_eq_ld, h3.read_unread, View.ld_unit_zero (S := S512x3584) hz, pay52_eq]
    rfl
  have es : kernelRun1_B.sl.r_59 c a1 h1 x0 = scale (rowq 0x37924925#32 x0 2) := by rw [← rowq_rd _ a1 h1]; rfl
  have et : kernelRun1_B.sl.r_56 c a1 h1 x0 = scale (rowq 0x3B124925#32 x0 1) := by rw [← rowq_rd _ a1 h1]; rfl
  unfold out1_B_7
  rw [View.read_writes_eq_canon _ _ _ (cover1_B_7 c i a1 h1 a2 h2 a3 h3 a4 h4 a5 h5 a6 h6 a7 h7 a8 h8 a9 h9 a10 h10 a11 h11 a12 h12 hc0 x0 x1 x2 x3 xo10 xo11)]
  unfold kernelRun1_B
  dsimp only
  unfold kernelRun1_B.sl.r_63 kernelRun1_B.sl.r_64 kernelRun1_B.sl.r_65 k1_pay55 dxPieces
  simp only [ev365, ev415, es, et, shapeCast_self, pay54_dx, pay56_dx, pay57_dx, pay58_dx, pay1_dx, pay2_dx, pay3_dx, View.readAt_eq_ld, h4.read_unread]
  first | done | rfl

end Cert.KernelIdeal.Gen
-- ==== Proof.Value.Tiles1.lean ====
/- The column tiles of `y` and `dx`, read back at an index over the extended reals. -/
module

public import proofs.«01_k».proof.Proof.Value.Region1
public import Idealize.ShloMosaic.Lib.MatmulPlain

@[expose] public section
set_option maxRecDepth 16384
noncomputable section
namespace Cert.KernelIdeal.Gen
open Idealize.ShloMosaic Idealize.ShloMosaic.TcCoe Idealize.ShloMosaic.Tactic
open Cert.Quant

theorem zero_f32 : Ideal.ofBits .f32 0x00000000#32 = 0 := by simp [Ideal.ofBits, Ideal.ieee]

/-- The two ways to write a row and column are the same index. -/
theorem ix2_eq {m n : ℕ} (r : Fin m) (j : Fin n) : (ValueIdx.ix2 r j : (⟨2, ![m, n]⟩ : Shape).Idx) = ix2 r j := by
  funext a; fin_cases a <;> rfl

/-- A column tile of `y` at an index: the row-by-column sum, scaled back. -/
theorem yPay_apply (s1 s2 : EReal) (X : S512x3584.Idx → EReal) (W : S3584x512.Idx → EReal) (r : Fin 512) (j : Fin 512) :
    yPay (F := Ideal) s1 s2 X W (ix2 r j) = (∑ k : Fin 3584, X (ix2 r k) * W (ix2 k j)) * (s1 * s2) := by
  have key := Ideal.matmul_plain_apply (M := 512) (K := 3584) (N := 512) (φ₁ := .fp8e4m3) (φ₂ := .fp8e4m3) none X W (constant S512x512 .f32 0x00000000#32) r j
  have h0 : (constant S512x512 .f32 0x00000000#32 : FVec Ideal S512x512 .f32) (ix2 r j) = (0 : EReal) := zero_f32
  simp only [ix2_eq] at key
  rw [h0, zero_add] at key
  exact congrArg (fun z : EReal => z * (s1 * s2)) key

/-- A column tile of `dx` at an index: the row-by-row sum, scaled back. -/
theorem dxPay_apply (s1 s2 : EReal) (X : S512x3584.Idx → EReal) (W : S512x3584.Idx → EReal) (r : Fin 512) (j : Fin 512) :
    dxPay (F := Ideal) s1 s2 X W (ix2 r j) = (∑ k : Fin 3584, X (ix2 r k) * W (ix2 j k)) * (s1 * s2) := by
  have key := Ideal.matmul_transposedRhs_apply (M := 512) (K := 3584) (N := 512) (φ₁ := .fp8e5m2) (φ₂ := .fp8e4m3) none X W (constant S512x512 .f32 0x00000000#32) r j
  have h0 : (constant S512x512 .f32 0x00000000#32 : FVec Ideal S512x512 .f32) (ix2 r j) = (0 : EReal) := zero_f32
  simp only [ix2_eq] at key
  rw [h0, zero_add] at key
  exact congrArg (fun z : EReal => z * (s1 * s2)) key

/-- The seven tiles of `y` together are one product. -/
theorem y_of_pieces (s1 s2 : EReal) (X : S512x3584.Idx → EReal) (W : S3584x3584.Idx → EReal) (r : Fin 512) (j : Fin 3584) :
    View.canon (yPieces (F := Ideal) s1 s2 X W) (ix2 r j) = (∑ k : Fin 3584, X (ix2 r k) * W (ix2 k j)) * (s1 * s2) := by
  unfold yPieces
  canon_tiles x h
  all_goals
    idx_vars x
    refine (yPay_apply s1 s2 X _ x0 x1).trans ?_
    have e0 : x0 = r := Fin.ext h0.symm
    subst e0
    refine congrArg (· * (s1 * s2)) (Finset.sum_congr rfl fun k _ => congrArg (X (ix2 x0 k) * ·) ?_)
    refine congrArg W (funext fun a => Fin.ext ?_)
    rw [Rect.idx_unit_val]
    fin_cases a
    · exact Nat.zero_add _
    · first | exact h1.symm | exact (Nat.zero_add _).trans h1.symm

/-- The seven tiles of `dx` together are one product. -/
theorem dx_of_pieces (s1 s2 : EReal) (X : S512x3584.Idx → EReal) (W : S3584x3584.Idx → EReal) (r : Fin 512) (j : Fin 3584) :
    View.canon (dxPieces (F := Ideal) s1 s2 X W) (ix2 r j) = (∑ k : Fin 3584, X (ix2 r k) * W (ix2 j k)) * (s1 * s2) := by
  unfold dxPieces
  canon_tiles x h
  all_goals
    idx_vars x
    refine (dxPay_apply s1 s2 X _ x0 x1).trans ?_
    have e0 : x0 = r := Fin.ext h0.symm
    subst e0
    refine congrArg (· * (s1 * s2)) (Finset.sum_congr rfl fun k _ => congrArg (X (ix2 x0 k) * ·) ?_)
    refine congrArg W (funext fun a => Fin.ext ?_)
    rw [Rect.idx_unit_val]
    fin_cases a
    · first | exact h1.symm | exact (Nat.zero_add _).trans h1.symm
    · exact Nat.zero_add _
end Cert.KernelIdeal.Gen
-- ==== Proof.Value.Arr1.lean ====
/- The arrays the second call (`fwd_dx`) leaves, over the extended reals, in terms of the arrays it finds. -/
module

public import proofs.«01_k».proof.Proof.Value.Tiles1
public import proofs.«01_k».proof.Proof.Value.Amax

@[expose] public section
set_option maxRecDepth 16384
noncomputable section
namespace Cert.KernelIdeal.Gen
open Idealize.ShloMosaic Idealize.ShloMosaic.TcCoe Idealize.ShloMosaic.Tactic
open Cert.Quant
open Idealize.ShloMosaic.Pipeline (Dat)

section
variable {F : FTy → Type} [FloatOps F] (V : (c : Dev nD) → (b : Ref sig .tc) → Buf (Elt F) ((c : Thread nD τ).loc b))

/-- Every point stores its tile's codes. -/
theorem outs1_4 (c : Dev nD) (t : Fin cfg1.N) : (outsAt1 V c t.val t.isLt).1
    = truncf .fp8e4m3 (held 0x43E00000#32 0xC3E00000#32 (iblk1 V c 1 t : Vec F S512x3584 .bf16) (inv (rowq 0x3B124925#32 (iblk1 V c 0 t) 0))) bitsLt_fp8e4m3_f32 := by
  by_cases h0 : t.val % 24 = 0
  · rw [outsAt1_A V c t h0]; dsimp only; rw [out1_A_4_eq]
  · rw [outsAt1_B V c t h0]; dsimp only; rw [out1_B_4_eq]

/-- Every point stores its tile's codes. -/
theorem outs1_5 (c : Dev nD) (t : Fin cfg1.N) : (outsAt1 V c t.val t.isLt).2.1
    = truncf .fp8e5m2 (held 0x47600000#32 0xC7600000#32 (iblk1 V c 2 t : Vec F S512x3584 .bf16) (inv (rowq 0x37924925#32 (iblk1 V c 0 t) 2))) bitsLt_fp8e5m2_f32 := by
  by_cases h0 : t.val % 24 = 0
  · rw [outsAt1_A V c t h0]; dsimp only; rw [out1_A_5_eq]
  · rw [outsAt1_B V c t h0]; dsimp only; rw [out1_B_5_eq]

/-- Every point stores its tile's products. -/
theorem outs1_6 (c : Dev nD) (t : Fin cfg1.N) : (outsAt1 V c t.val t.isLt).2.2.1
    = View.canon (yPieces (scale (rowq 0x3B124925#32 (iblk1 V c 0 t) 0)) (scale (rowq 0x3B124925#32 (iblk1 V c 0 t) 1)) (truncf .fp8e4m3 (held 0x43E00000#32 0xC3E00000#32 (iblk1 V c 1 t : Vec F S512x3584 .bf16) (inv (rowq 0x3B124925#32 (iblk1 V c 0 t) 0))) bitsLt_fp8e4m3_f32) (iblk1 V c 3 t)) := by
  by_cases h0 : t.val % 24 = 0
  · rw [outsAt1_A V c t h0]; dsimp only; rw [out1_A_6_eq]
  · rw [outsAt1_B V c t h0]; dsimp only; rw [out1_B_6_eq]

/-- Every point stores its tile's products. -/
theorem outs1_7 (c : Dev nD) (t : Fin cfg1.N) : (outsAt1 V c t.val t.isLt).2.2.2.1
    = View.canon (dxPieces (scale (rowq 0x37924925#32 (iblk1 V c 0 t) 2)) (scale (rowq 0x3B124925#32 (iblk1 V c 0 t) 1)) (truncf .fp8e5m2 (held 0x47600000#32 0xC7600000#32 (iblk1 V c 2 t : Vec F S512x3584 .bf16) (inv (rowq 0x37924925#32 (iblk1 V c 0 t) 2))) bitsLt_fp8e5m2_f32) (iblk1 V c 3 t)) := by
  by_cases h0 : t.val % 24 = 0
  · rw [outsAt1_A V c t h0]; dsimp only; rw [out1_A_7_eq]
  · rw [outsAt1_B V c t h0]; dsimp only; rw [out1_B_7_eq]

/-- Every point stores the scale. -/
theorem outs1_8 (c : Dev nD) (t : Fin cfg1.N) : (outsAt1 V c t.val t.isLt).2.2.2.2.1 = fun _ => scale (rowq 0x3B124925#32 (iblk1 V c 0 t) 0) := by
  by_cases h0 : t.val % 24 = 0
  · rw [outsAt1_A V c t h0]; dsimp only; rw [out1_A_8_eq]
  · rw [outsAt1_B V c t h0]; dsimp only; rw [out1_B_8_eq]

/-- Every point stores the scale. -/
theorem outs1_9 (c : Dev nD) (t : Fin cfg1.N) : (outsAt1 V c t.val t.isLt).2.2.2.2.2.1 = fun _ => scale (rowq 0x37924925#32 (iblk1 V c 0 t) 2) := by
  by_cases h0 : t.val % 24 = 0
  · rw [outsAt1_A V c t h0]; dsimp only; rw [out1_A_9_eq]
  · rw [outsAt1_B V c t h0]; dsimp only; rw [out1_B_9_eq]

/-- The running amax starts from zero at the first point, -/
theorem outs1_10_zero (c : Dev nD) (h : 0 < cfg1.N) : (outsAt1 V c 0 h).2.2.2.2.2.2.1 = amaxStep amaxZero (iblk1 V c 1 ⟨0, h⟩) := by
  rw [show outsAt1 V c 0 h = outsAt1 V c (⟨0, h⟩ : Fin cfg1.N).val h from rfl, outsAt1_A V c ⟨0, h⟩ rfl]; dsimp only; rw [out1_A_10_eq]

/-- and goes on from the point before at every other. -/
theorem outs1_10_succ (c : Dev nD) (n : ℕ) (h : n + 1 < cfg1.N) :
    (outsAt1 V c (n + 1) h).2.2.2.2.2.2.1 = amaxStep (outsAt1 V c n (by omega)).2.2.2.2.2.2.1 (iblk1 V c 1 ⟨n + 1, h⟩) := by
  have h7 : n + 1 < 24 := lt_of_lt_of_eq h N_1
  rw [show outsAt1 V c (n + 1) h = outsAt1 V c (⟨n + 1, h⟩ : Fin cfg1.N).val h from rfl, outsAt1_B V c ⟨n + 1, h⟩ (by show ¬ (n + 1) % 24 = 0; omega)]; dsimp only; rw [out1_B_10_eq]
  rfl

/-- The running amax starts from zero at the first point, -/
theorem outs1_11_zero (c : Dev nD) (h : 0 < cfg1.N) : (outsAt1 V c 0 h).2.2.2.2.2.2.2 = amaxStep amaxZero (iblk1 V c 2 ⟨0, h⟩) := by
  rw [show outsAt1 V c 0 h = outsAt1 V c (⟨0, h⟩ : Fin cfg1.N).val h from rfl, outsAt1_A V c ⟨0, h⟩ rfl]; dsimp only; rw [out1_A_11_eq]

/-- and goes on from the point before at every other. -/
theorem outs1_11_succ (c : Dev nD) (n : ℕ) (h : n + 1 < cfg1.N) :
    (outsAt1 V c (n + 1) h).2.2.2.2.2.2.2 = amaxStep (outsAt1 V c n (by omega)).2.2.2.2.2.2.2 (iblk1 V c 2 ⟨n + 1, h⟩) := by
  have h7 : n + 1 < 24 := lt_of_lt_of_eq h N_1
  rw [show outsAt1 V c (n + 1) h = outsAt1 V c (⟨n + 1, h⟩ : Fin cfg1.N).val h from rfl, outsAt1_B V c ⟨n + 1, h⟩ (by show ¬ (n + 1) % 24 = 0; omega)]; dsimp only; rw [out1_B_11_eq]
  rfl

end

variable (V : (c : Dev nD) → (b : Ref sig .tc) → Buf (Elt Ideal) ((c : Thread nD τ).loc b))

/-- The last of the twenty-four points. -/
abbrev t1_23 : Fin cfg1.N := ⟨23, lt_of_lt_of_eq (by decide) N_1.symm⟩

theorem idx1_0 : ∀ t, win1_0.index t = ![0, 0] := by decide +kernel
theorem idx1_1 : ∀ t, win1_1.index t = ![t.val, 0] := by decide +kernel
theorem idx1_2 : ∀ t, win1_2.index t = ![t.val, 0] := by decide +kernel
theorem idx1_3 : ∀ t, win1_3.index t = ![0, 0] := by decide +kernel
theorem idx1_4 : ∀ t, win1_4.index t = ![t.val, 0] := by decide +kernel
theorem idx1_5 : ∀ t, win1_5.index t = ![t.val, 0] := by decide +kernel
theorem idx1_6 : ∀ t, win1_6.index t = ![t.val, 0] := by decide +kernel
theorem idx1_7 : ∀ t, win1_7.index t = ![t.val, 0] := by decide +kernel

theorem iblk1_0_eq (c : Dev nD) (t : Fin cfg1.N) : iblk1 V c 0 t = V c main_arg3 := by
  funext y
  blk_ext [iblk1, idx1_0 t]

theorem iblk1_3_eq (c : Dev nD) (t : Fin cfg1.N) : iblk1 V c 3 t = V c main_v3_0 := by
  funext y
  blk_ext [iblk1, idx1_3 t]

theorem iblk1_1_eq (c : Dev nD) (t : Fin cfg1.N) (r : Fin 512) (j : Fin 3584) : iblk1 V c 1 t (ix2 r j) = V c main_v0 (ix2 ⟨t.val * 512 + r.val, by have := lt_of_lt_of_eq t.isLt N_1; omega⟩ j) := by
  blk_ext [iblk1, idx1_1 t]

theorem iblk1_2_eq (c : Dev nD) (t : Fin cfg1.N) (r : Fin 512) (j : Fin 3584) : iblk1 V c 2 t (ix2 r j) = V c main_v1 (ix2 ⟨t.val * 512 + r.val, by have := lt_of_lt_of_eq t.isLt N_1; omega⟩ j) := by
  blk_ext [iblk1, idx1_2 t]

/-- The codes of `x`. -/
theorem arr1_4 (c : Dev nD) (x : S12288x3584.Idx → EReal) (hx : x = V c main_v0) (h : S3x16.Idx → EReal) (hh : h = V c main_arg3) :
    (dat1 V c).arrAt 4 cfg1.N = (fun i => code 0x43E00000#32 0xC3E00000#32 (x i) (invE (q 0x3B124925#32 h 0)) : S12288x3584.Idx → EReal) := by
  refine (dat1 V c).arrAt_eq_of_covers 4 _ (by decide +kernel) fun t hf y => ?_
  blk_simp
  rw [after1_4, outs1_4, iblk1_0_eq V c t, ← hh, code_of_held]
  have e : iblk1 V c 1 t y = x ((win1_4.blk t).view.emb y) := by
    subst hx
    blk_ext [iblk1, idx1_1 t, idx1_4 t]
  rw [e]
  rfl

/-- The codes of `dy`. -/
theorem arr1_5 (c : Dev nD) (x : S12288x3584.Idx → EReal) (hx : x = V c main_v1) (h : S3x16.Idx → EReal) (hh : h = V c main_arg3) :
    (dat1 V c).arrAt 5 cfg1.N = (fun i => code 0x47600000#32 0xC7600000#32 (x i) (invE (q 0x37924925#32 h 2)) : S12288x3584.Idx → EReal) := by
  refine (dat1 V c).arrAt_eq_of_covers 5 _ (by decide +kernel) fun t hf y => ?_
  blk_simp
  rw [after1_5, outs1_5, iblk1_0_eq V c t, ← hh, code_of_held]
  have e : iblk1 V c 2 t y = x ((win1_5.blk t).view.emb y) := by
    subst hx
    blk_ext [iblk1, idx1_2 t, idx1_5 t]
  rw [e]
  rfl

/-- The scale of `x`. -/
theorem arr1_8 (c : Dev nD) (h : S3x16.Idx → EReal) (hh : h = V c main_arg3) :
    (dat1 V c).arrAt 8 cfg1.N = (fun _ => scaleE (q 0x3B124925#32 h 0) : S1x1.Idx → EReal) := by
  refine (dat1 V c).arrAt_eq_of_covers 8 _ (by decide +kernel) fun t hf y => ?_
  blk_simp
  rw [after1_8, outs1_8, iblk1_0_eq V c t, ← hh]
  rfl

/-- The scale of `dy`. -/
theorem arr1_9 (c : Dev nD) (h : S3x16.Idx → EReal) (hh : h = V c main_arg3) :
    (dat1 V c).arrAt 9 cfg1.N = (fun _ => scaleE (q 0x37924925#32 h 2) : S1x1.Idx → EReal) := by
  refine (dat1 V c).arrAt_eq_of_covers 9 _ (by decide +kernel) fun t hf y => ?_
  blk_simp
  rw [after1_9, outs1_9, iblk1_0_eq V c t, ← hh]
  rfl

/-- `y`: the product of the codes, scaled back. -/
theorem arr1_6 (c : Dev nD) (x : S12288x3584.Idx → EReal) (hx : x = V c main_v0) (h : S3x16.Idx → EReal) (hh : h = V c main_arg3)
    (w : S3584x3584.Idx → EReal) (hw : w = V c main_v3_0) :
    (dat1 V c).arrAt 6 cfg1.N = (fun i => (∑ k : Fin 3584, code 0x43E00000#32 0xC3E00000#32 (x (ix2 (i 0) k)) (invE (q 0x3B124925#32 h 0)) * w (ix2 k (i 1))) * (scaleE (q 0x3B124925#32 h 0) * scaleE (q 0x3B124925#32 h 1)) : S12288x3584.Idx → EReal) := by
  refine (dat1 V c).arrAt_eq_of_covers 6 _ (by decide +kernel) fun t hf y => ?_
  blk_simp
  rw [after1_6, outs1_6, iblk1_0_eq V c t, iblk1_3_eq V c t, ← hh, ← hw]
  idx_vars y
  refine (y_of_pieces _ _ _ w y0 y1).trans ?_
  have key : ∀ f : S12288x3584.Idx → EReal, f ((win1_6.blk t).view.emb (ix2 y0 y1)) = f (ix2 ⟨t.val * 512 + y0.val, by have := lt_of_lt_of_eq t.isLt N_1; omega⟩ y1) := by
    intro f
    blk_ext [idx1_6 t]
  refine Eq.trans ?_ (key (fun i => (∑ k : Fin 3584, code 0x43E00000#32 0xC3E00000#32 (x (ix2 (i 0) k)) (invE (q 0x3B124925#32 h 0)) * w (ix2 k (i 1))) * (scaleE (q 0x3B124925#32 h 0) * scaleE (q 0x3B124925#32 h 1)))).symm
  refine congrArg (· * (scaleE (q 0x3B124925#32 h 0) * scaleE (q 0x3B124925#32 h 1))) (Finset.sum_congr rfl fun k _ => ?_)
  refine congrArg (· * w (ix2 k y1)) ?_
  rw [code_of_held, iblk1_1_eq, ← hx]
  rfl

/-- `dx`: the product of the codes, scaled back. -/
theorem arr1_7 (c : Dev nD) (x : S12288x3584.Idx → EReal) (hx : x = V c main_v1) (h : S3x16.Idx → EReal) (hh : h = V c main_arg3)
    (w : S3584x3584.Idx → EReal) (hw : w = V c main_v3_0) :
    (dat1 V c).arrAt 7 cfg1.N = (fun i => (∑ k : Fin 3584, code 0x47600000#32 0xC7600000#32 (x (ix2 (i 0) k)) (invE (q 0x37924925#32 h 2)) * w (ix2 (i 1) k)) * (scaleE (q 0x37924925#32 h 2) * scaleE (q 0x3B124925#32 h 1)) : S12288x3584.Idx → EReal) := by
  refine (dat1 V c).arrAt_eq_of_covers 7 _ (by decide +kernel) fun t hf y => ?_
  blk_simp
  rw [after1_7, outs1_7, iblk1_0_eq V c t, iblk1_3_eq V c t, ← hh, ← hw]
  idx_vars y
  refine (dx_of_pieces _ _ _ w y0 y1).trans ?_
  have key : ∀ f : S12288x3584.Idx → EReal, f ((win1_7.blk t).view.emb (ix2 y0 y1)) = f (ix2 ⟨t.val * 512 + y0.val, by have := lt_of_lt_of_eq t.isLt N_1; omega⟩ y1) := by
    intro f
    blk_ext [idx1_7 t]
  refine Eq.trans ?_ (key (fun i => (∑ k : Fin 3584, code 0x47600000#32 0xC7600000#32 (x (ix2 (i 0) k)) (invE (q 0x37924925#32 h 2)) * w (ix2 (i 1) k)) * (scaleE (q 0x37924925#32 h 2) * scaleE (q 0x3B124925#32 h 1)))).symm
  refine congrArg (· * (scaleE (q 0x37924925#32 h 2) * scaleE (q 0x3B124925#32 h 1))) (Finset.sum_congr rfl fun k _ => ?_)
  refine congrArg (· * w (ix2 y1 k)) ?_
  rw [code_of_held, iblk1_2_eq, ← hx]
  rfl

/-- The running amax after point `n`, against a bound. -/
theorem amax1_10_le (c : Dev nD) (n : ℕ) (hn : n < cfg1.N) (r : Fin 16) (j : Fin 3584) (b : EReal) :
    (outsAt1 V c n hn).2.2.2.2.2.2.1 (ix2 r j) ≤ b ↔ 0 ≤ b ∧ ∀ (k : ℕ) (hk : k < cfg1.N), k ≤ n → ∀ q : Fin 32, mag (iblk1 V c 1 ⟨k, hk⟩ (ix2 (tileRow q r) j)) ≤ b :=
  amax_run_le (fun n h => (outsAt1 V c n h).2.2.2.2.2.2.1) (fun n h => iblk1 V c 1 ⟨n, h⟩) (outs1_10_zero V c) (outs1_10_succ V c) r j b n hn

/-- The amax array of `x`: at most `b` everywhere exactly when no element exceeds `b` in magnitude. -/
theorem arr1_10 (c : Dev nD) (x : S12288x3584.Idx → EReal) (hx : x = V c main_v0) (X : S16x3584.Idx → EReal) (hX : X = (dat1 V c).arrAt 10 cfg1.N) (b : EReal) :
    (∀ i, X i ≤ b) ↔ ∀ i, mag (x i) ≤ b := by
  have e : (dat1 V c).arrAt 10 cfg1.N = ((outsAt1 V c t1_23.val t1_23.isLt).2.2.2.2.2.2.1 : S16x3584.Idx → EReal) := by
    refine (dat1 V c).arrAt_eq_of_after_last 10 t1_23 (by decide +kernel) _ fun j => ?_
    blk_simp
    rw [after1_10]
  rw [hX, e]
  constructor
  · intro H i
    idx_vars i
    have h1 := ((amax1_10_le V c t1_23.val t1_23.isLt ⟨i0.val % 16, by omega⟩ i1 b).mp (H _)).2 (i0.val / 512) (by rw [show cfg1.N = 24 from N_1]; omega) (by show _ ≤ 23; omega) ⟨i0.val % 512 / 16, by omega⟩
    rw [iblk1_1_eq, ← hx] at h1
    convert h1 using 4
    apply Fin.ext
    show i0.val = i0.val / 512 * 512 + (i0.val % 512 / 16 * 16 + i0.val % 16)
    omega
  · intro H i
    idx_vars i
    refine (amax1_10_le V c t1_23.val t1_23.isLt i0 i1 b).mpr ⟨(mag_nonneg _).trans (H (ix2 0 0)), fun k hk _ q => ?_⟩
    rw [iblk1_1_eq, ← hx]
    exact H _

/-- The running amax after point `n`, against a bound. -/
theorem amax1_11_le (c : Dev nD) (n : ℕ) (hn : n < cfg1.N) (r : Fin 16) (j : Fin 3584) (b : EReal) :
    (outsAt1 V c n hn).2.2.2.2.2.2.2 (ix2 r j) ≤ b ↔ 0 ≤ b ∧ ∀ (k : ℕ) (hk : k < cfg1.N), k ≤ n → ∀ q : Fin 32, mag (iblk1 V c 2 ⟨k, hk⟩ (ix2 (tileRow q r) j)) ≤ b :=
  amax_run_le (fun n h => (outsAt1 V c n h).2.2.2.2.2.2.2) (fun n h => iblk1 V c 2 ⟨n, h⟩) (outs1_11_zero V c) (outs1_11_succ V c) r j b n hn

/-- The amax array of `dy`: at most `b` everywhere exactly when no element exceeds `b` in magnitude. -/
theorem arr1_11 (c : Dev nD) (x : S12288x3584.Idx → EReal) (hx : x = V c main_v1) (X : S16x3584.Idx → EReal) (hX : X = (dat1 V c).arrAt 11 cfg1.N) (b : EReal) :
    (∀ i, X i ≤ b) ↔ ∀ i, mag (x i) ≤ b := by
  have e : (dat1 V c).arrAt 11 cfg1.N = ((outsAt1 V c t1_23.val t1_23.isLt).2.2.2.2.2.2.2 : S16x3584.Idx → EReal) := by
    refine (dat1 V c).arrAt_eq_of_after_last 11 t1_23 (by decide +kernel) _ fun j => ?_
    blk_simp
    rw [after1_11]
  rw [hX, e]
  constructor
  · intro H i
    idx_vars i
    have h1 := ((amax1_11_le V c t1_23.val t1_23.isLt ⟨i0.val % 16, by omega⟩ i1 b).mp (H _)).2 (i0.val / 512) (by rw [show cfg1.N = 24 from N_1]; omega) (by show _ ≤ 23; omega) ⟨i0.val % 512 / 16, by omega⟩
    rw [iblk1_2_eq, ← hx] at h1
    convert h1 using 4
    apply Fin.ext
    show i0.val = i0.val / 512 * 512 + (i0.val % 512 / 16 * 16 + i0.val % 16)
    omega
  · intro H i
    idx_vars i
    refine (amax1_11_le V c t1_23.val t1_23.isLt i0 i1 b).mpr ⟨(mag_nonneg _).trans (H (ix2 0 0)), fun k hk _ q => ?_⟩
    rw [iblk1_2_eq, ← hx]
    exact H _

end Cert.KernelIdeal.Gen
-- ==== Proof.Value.Region2.lean ====
/- The values the third call (`dw`) leaves: the block of the weight gradient each grid point stores and the history the first stores. -/
module

public import proofs.«01_k».proof.Proof.KernelIdeal.Region2
public import proofs.«01_k».proof.Proof.Value.Region0

@[expose] public section
set_option maxRecDepth 16384
noncomputable section
namespace Cert.KernelIdeal.Gen
open Idealize.ShloMosaic Idealize.ShloMosaic.TcCoe Idealize.ShloMosaic.Tactic
open Cert.Quant
variable {F : FTy → Type} [FloatOps F]

/-- A block of the weight gradient: the product of the code blocks over the tokens, scaled back. -/
def dwPay (s1 s2 : F .f32) (X : FVec F S12288x896 .fp8e4m3) (Y : FVec F S12288x512 .fp8e5m2) : FVec F S896x512 .f32 :=
  mulf (matmul dot_S12288x896_S12288x512_S896x512_0_0_1_1_n_n none X Y (constant S896x512 .f32 0x00000000#32)) (broadcast S896x512 (Scalar.mulf s1 s2))

/-- The ring slot of step `s`: the remainder by sixteen, raised by sixteen where negative. -/
def slotw (s : BitVec 32) : BitVec 32 :=
  Scalar.select (Scalar.cmpi .slt (Scalar.remsi s 16#32) 0#32) (Scalar.addi (Scalar.remsi s 16#32) 16#32) (Scalar.remsi s 16#32)

/-- The largest entry of an amax array. -/
def amaxOf (x : FVec F S16x3584 .bf16) : F .f32 := k2_pay5 x

/-- One entry of the new history: the current amax in the step's slot `j`, the old entry `h` in any other. -/
def histWord (s : BitVec 32) (m h : F .f32) (j : BitVec 32) : F .f32 := Scalar.select (Scalar.cmpi .eq (slotw s) j) m h

/-- A history entry named by equal numbers. -/
theorem histWord_congr (s : BitVec 32) (m : Fin 3 → F .f32) (h : Vec F S3x16 .f32) {r : Fin 3} {j : Fin 16} (R : Fin 3) (J : Fin 16) (e0 : r.val = R.val) (e1 : j.val = J.val) :
    histWord s (m R) (h (ix2 R J)) (BitVec.ofNat 32 J.val) = histWord s (m r) (h (ix2 r j)) (BitVec.ofNat 32 j.val) := by
  obtain rfl := Fin.ext e0; obtain rfl := Fin.ext e1; rfl

/-- The step as the kernel loads it from its scalar memory. -/
def rds (a : Memref sig Kind.tc Space.smem S1x1 EltTy.i32) (h : a.IsWhole) (x : Vec F S1x1 .i32) : BitVec 32 :=
  View.readAt (Elt F) a.view (Rect.unit (s := S1x1) ![0, 0] S1x1.size inb_S1x1_S1x1_0_0).toLoadRect (h.unread x) (Shape.Idx.first S1x1_pos)

/-- The scalar read of the step is the step. -/
theorem rds_eq (a : Memref sig Kind.tc Space.smem S1x1 EltTy.i32) (h : a.IsWhole) (x : Vec F S1x1 .i32) : rds a h x = x (ix2 0 0) := by
  unfold rds
  rw [View.readAt_eq_ld, h.read_unread]
  show x _ = x _
  congr 1
  funext k
  apply Fin.ext
  rw [Rect.idx_unit_val]
  fin_cases k <;> rfl

/-- The forty-eight entries of the new history, the last stored first. -/
def histPieces (s : BitVec 32) (m0 m1 m2 : F .f32) (h : Fin 3 → Fin 16 → F .f32) : List (View.Piece (Elt F) S3x16 .f32) :=
  [⟨Rect.unit (s := S3x16) ![2, 15] ![1, 1] inb_S3x16_S1x1_2_15, fun _ => histWord s m2 (h 2 15) 15#32⟩,
   ⟨Rect.unit (s := S3x16) ![2, 14] ![1, 1] inb_S3x16_S1x1_2_14, fun _ => histWord s m2 (h 2 14) 14#32⟩,
   ⟨Rect.unit (s := S3x16) ![2, 13] ![1, 1] inb_S3x16_S1x1_2_13, fun _ => histWord s m2 (h 2 13) 13#32⟩,
   ⟨Rect.unit (s := S3x16) ![2, 12] ![1, 1] inb_S3x16_S1x1_2_12, fun _ => histWord s m2 (h 2 12) 12#32⟩,
   ⟨Rect.unit (s := S3x16) ![2, 11] ![1, 1] inb_S3x16_S1x1_2_11, fun _ => histWord s m2 (h 2 11) 11#32⟩,
   ⟨Rect.unit (s := S3x16) ![2, 10] ![1, 1] inb_S3x16_S1x1_2_10, fun _ => histWord s m2 (h 2 10) 10#32⟩,
   ⟨Rect.unit (s := S3x16) ![2, 9] ![1, 1] inb_S3x16_S1x1_2_9, fun _ => histWord s m2 (h 2 9) 9#32⟩,
   ⟨Rect.unit (s := S3x16) ![2, 8] ![1, 1] inb_S3x16_S1x1_2_8, fun _ => histWord s m2 (h 2 8) 8#32⟩,
   ⟨Rect.unit (s := S3x16) ![2, 7] ![1, 1] inb_S3x16_S1x1_2_7, fun _ => histWord s m2 (h 2 7) 7#32⟩,
   ⟨Rect.unit (s := S3x16) ![2, 6] ![1, 1] inb_S3x16_S1x1_2_6, fun _ => histWord s m2 (h 2 6) 6#32⟩,
   ⟨Rect.unit (s := S3x16) ![2, 5] ![1, 1] inb_S3x16_S1x1_2_5, fun _ => histWord s m2 (h 2 5) 5#32⟩,
   ⟨Rect.unit (s := S3x16) ![2, 4] ![1, 1] inb_S3x16_S1x1_2_4, fun _ => histWord s m2 (h 2 4) 4#32⟩,
   ⟨Rect.unit (s := S3x16) ![2, 3] ![1, 1] inb_S3x16_S1x1_2_3, fun _ => histWord s m2 (h 2 3) 3#32⟩,
   ⟨Rect.unit (s := S3x16) ![2, 2] ![1, 1] inb_S3x16_S1x1_2_2, fun _ => histWord s m2 (h 2 2) 2#32⟩,
   ⟨Rect.unit (s := S3x16) ![2, 1] ![1, 1] inb_S3x16_S1x1_2_1, fun _ => histWord s m2 (h 2 1) 1#32⟩,
   ⟨Rect.unit (s := S3x16) ![2, 0] ![1, 1] inb_S3x16_S1x1_2_0, fun _ => histWord s m2 (h 2 0) 0#32⟩,
   ⟨Rect.unit (s := S3x16) ![1, 15] ![1, 1] inb_S3x16_S1x1_1_15, fun _ => histWord s m1 (h 1 15) 15#32⟩,
   ⟨Rect.unit (s := S3x16) ![1, 14] ![1, 1] inb_S3x16_S1x1_1_14, fun _ => histWord s m1 (h 1 14) 14#32⟩,
   ⟨Rect.unit (s := S3x16) ![1, 13] ![1, 1] inb_S3x16_S1x1_1_13, fun _ => histWord s m1 (h 1 13) 13#32⟩,
   ⟨Rect.unit (s := S3x16) ![1, 12] ![1, 1] inb_S3x16_S1x1_1_12, fun _ => histWord s m1 (h 1 12) 12#32⟩,
   ⟨Rect.unit (s := S3x16) ![1, 11] ![1, 1] inb_S3x16_S1x1_1_11, fun _ => histWord s m1 (h 1 11) 11#32⟩,
   ⟨Rect.unit (s := S3x16) ![1, 10] ![1, 1] inb_S3x16_S1x1_1_10, fun _ => histWord s m1 (h 1 10) 10#32⟩,
   ⟨Rect.unit (s := S3x16) ![1, 9] ![1, 1] inb_S3x16_S1x1_1_9, fun _ => histWord s m1 (h 1 9) 9#32⟩,
   ⟨Rect.unit (s := S3x16) ![1, 8] ![1, 1] inb_S3x16_S1x1_1_8, fun _ => histWord s m1 (h 1 8) 8#32⟩,
   ⟨Rect.unit (s := S3x16) ![1, 7] ![1, 1] inb_S3x16_S1x1_1_7, fun _ => histWord s m1 (h 1 7) 7#32⟩,
   ⟨Rect.unit (s := S3x16) ![1, 6] ![1, 1] inb_S3x16_S1x1_1_6, fun _ => histWord s m1 (h 1 6) 6#32⟩,
   ⟨Rect.unit (s := S3x16) ![1, 5] ![1, 1] inb_S3x16_S1x1_1_5, fun _ => histWord s m1 (h 1 5) 5#32⟩,
   ⟨Rect.unit (s := S3x16) ![1, 4] ![1, 1] inb_S3x16_S1x1_1_4, fun _ => histWord s m1 (h 1 4) 4#32⟩,
   ⟨Rect.unit (s := S3x16) ![1, 3] ![1, 1] inb_S3x16_S1x1_1_3, fun _ => histWord s m1 (h 1 3) 3#32⟩,
   ⟨Rect.unit (s := S3x16) ![1, 2] ![1, 1] inb_S3x16_S1x1_1_2, fun _ => histWord s m1 (h 1 2) 2#32⟩,
   ⟨Rect.unit (s := S3x16) ![1, 1] ![1, 1] inb_S3x16_S1x1_1_1, fun _ => histWord s m1 (h 1 1) 1#32⟩,
   ⟨Rect.unit (s := S3x16) ![1, 0] ![1, 1] inb_S3x16_S1x1_1_0, fun _ => histWord s m1 (h 1 0) 0#32⟩,
   ⟨Rect.unit (s := S3x16) ![0, 15] ![1, 1] inb_S3x16_S1x1_0_15, fun _ => histWord s m0 (h 0 15) 15#32⟩,
   ⟨Rect.unit (s := S3x16) ![0, 14] ![1, 1] inb_S3x16_S1x1_0_14, fun _ => histWord s m0 (h 0 14) 14#32⟩,
   ⟨Rect.unit (s := S3x16) ![0, 13] ![1, 1] inb_S3x16_S1x1_0_13, fun _ => histWord s m0 (h 0 13) 13#32⟩,
   ⟨Rect.unit (s := S3x16) ![0, 12] ![1, 1] inb_S3x16_S1x1_0_12, fun _ => histWord s m0 (h 0 12) 12#32⟩,
   ⟨Rect.unit (s := S3x16) ![0, 11] ![1, 1] inb_S3x16_S1x1_0_11, fun _ => histWord s m0 (h 0 11) 11#32⟩,
   ⟨Rect.unit (s := S3x16) ![0, 10] ![1, 1] inb_S3x16_S1x1_0_10, fun _ => histWord s m0 (h 0 10) 10#32⟩,
   ⟨Rect.unit (s := S3x16) ![0, 9] ![1, 1] inb_S3x16_S1x1_0_9, fun _ => histWord s m0 (h 0 9) 9#32⟩,
   ⟨Rect.unit (s := S3x16) ![0, 8] ![1, 1] inb_S3x16_S1x1_0_8, fun _ => histWord s m0 (h 0 8) 8#32⟩,
   ⟨Rect.unit (s := S3x16) ![0, 7] ![1, 1] inb_S3x16_S1x1_0_7, fun _ => histWord s m0 (h 0 7) 7#32⟩,
   ⟨Rect.unit (s := S3x16) ![0, 6] ![1, 1] inb_S3x16_S1x1_0_6, fun _ => histWord s m0 (h 0 6) 6#32⟩,
   ⟨Rect.unit (s := S3x16) ![0, 5] ![1, 1] inb_S3x16_S1x1_0_5, fun _ => histWord s m0 (h 0 5) 5#32⟩,
   ⟨Rect.unit (s := S3x16) ![0, 4] ![1, 1] inb_S3x16_S1x1_0_4, fun _ => histWord s m0 (h 0 4) 4#32⟩,
   ⟨Rect.unit (s := S3x16) ![0, 3] ![1, 1] inb_S3x16_S1x1_0_3, fun _ => histWord s m0 (h 0 3) 3#32⟩,
   ⟨Rect.unit (s := S3x16) ![0, 2] ![1, 1] inb_S3x16_S1x1_0_2, fun _ => histWord s m0 (h 0 2) 2#32⟩,
   ⟨Rect.unit (s := S3x16) ![0, 1] ![1, 1] inb_S3x16_S1x1_0_1, fun _ => histWord s m0 (h 0 1) 1#32⟩,
   ⟨Rect.unit (s := S3x16) ![0, 0] ![1, 1] inb_S3x16_S1x1_0_0, fun _ => histWord s m0 (h 0 0) 0#32⟩]

/-- Together they are one array. -/
theorem hist_of_pieces (s : BitVec 32) (m0 m1 m2 : F .f32) (h : Vec F S3x16 .f32) (r : Fin 3) (j : Fin 16) :
    View.canon (histPieces s m0 m1 m2 fun r j => h (ix2 r j)) (ix2 r j) = histWord s ((![m0, m1, m2] : Fin 3 → F .f32) r) (h (ix2 r j)) (BitVec.ofNat 32 j.val) := by
  unfold histPieces
  canon_tiles x h
  · exact histWord_congr s ![m0, m1, m2] h 2 15 (h0.trans (by show _ = 2; omega)) (h1.trans (by show _ = 15; omega))
  · exact histWord_congr s ![m0, m1, m2] h 2 14 (h0.trans (by show _ = 2; omega)) (h1.trans (by show _ = 14; omega))
  · exact histWord_congr s ![m0, m1, m2] h 2 13 (h0.trans (by show _ = 2; omega)) (h1.trans (by show _ = 13; omega))
  · exact histWord_congr s ![m0, m1, m2] h 2 12 (h0.trans (by show _ = 2; omega)) (h1.trans (by show _ = 12; omega))
  · exact histWord_congr s ![m0, m1, m2] h 2 11 (h0.trans (by show _ = 2; omega)) (h1.trans (by show _ = 11; omega))
  · exact histWord_congr s ![m0, m1, m2] h 2 10 (h0.trans (by show _ = 2; omega)) (h1.trans (by show _ = 10; omega))
  · exact histWord_congr s ![m0, m1, m2] h 2 9 (h0.trans (by show _ = 2; omega)) (h1.trans (by show _ = 9; omega))
  · exact histWord_congr s ![m0, m1, m2] h 2 8 (h0.trans (by show _ = 2; omega)) (h1.trans (by show _ = 8; omega))
  · exact histWord_congr s ![m0, m1, m2] h 2 7 (h0.trans (by show _ = 2; omega)) (h1.trans (by show _ = 7; omega))
  · exact histWord_congr s ![m0, m1, m2] h 2 6 (h0.trans (by show _ = 2; omega)) (h1.trans (by show _ = 6; omega))
  · exact histWord_congr s ![m0, m1, m2] h 2 5 (h0.trans (by show _ = 2; omega)) (h1.trans (by show _ = 5; omega))
  · exact histWord_congr s ![m0, m1, m2] h 2 4 (h0.trans (by show _ = 2; omega)) (h1.trans (by show _ = 4; omega))
  · exact histWord_congr s ![m0, m1, m2] h 2 3 (h0.trans (by show _ = 2; omega)) (h1.trans (by show _ = 3; omega))
  · exact histWord_congr s ![m0, m1, m2] h 2 2 (h0.trans (by show _ = 2; omega)) (h1.trans (by show _ = 2; omega))
  · exact histWord_congr s ![m0, m1, m2] h 2 1 (h0.trans (by show _ = 2; omega)) (h1.trans (by show _ = 1; omega))
  · exact histWord_congr s ![m0, m1, m2] h 2 0 (h0.trans (by show _ = 2; omega)) (h1.trans (by show _ = 0; omega))
  · exact histWord_congr s ![m0, m1, m2] h 1 15 (h0.trans (by show _ = 1; omega)) (h1.trans (by show _ = 15; omega))
  · exact histWord_congr s ![m0, m1, m2] h 1 14 (h0.trans (by show _ = 1; omega)) (h1.trans (by show _ = 14; omega))
  · exact histWord_congr s ![m0, m1, m2] h 1 13 (h0.trans (by show _ = 1; omega)) (h1.trans (by show _ = 13; omega))
  · exact histWord_congr s ![m0, m1, m2] h 1 12 (h0.trans (by show _ = 1; omega)) (h1.trans (by show _ = 12; omega))
  · exact histWord_congr s ![m0, m1, m2] h 1 11 (h0.trans (by show _ = 1; omega)) (h1.trans (by show _ = 11; omega))
  · exact histWord_congr s ![m0, m1, m2] h 1 10 (h0.trans (by show _ = 1; omega)) (h1.trans (by show _ = 10; omega))
  · exact histWord_congr s ![m0, m1, m2] h 1 9 (h0.trans (by show _ = 1; omega)) (h1.trans (by show _ = 9; omega))
  · exact histWord_congr s ![m0, m1, m2] h 1 8 (h0.trans (by show _ = 1; omega)) (h1.trans (by show _ = 8; omega))
  · exact histWord_congr s ![m0, m1, m2] h 1 7 (h0.trans (by show _ = 1; omega)) (h1.trans (by show _ = 7; omega))
  · exact histWord_congr s ![m0, m1, m2] h 1 6 (h0.trans (by show _ = 1; omega)) (h1.trans (by show _ = 6; omega))
  · exact histWord_congr s ![m0, m1, m2] h 1 5 (h0.trans (by show _ = 1; omega)) (h1.trans (by show _ = 5; omega))
  · exact histWord_congr s ![m0, m1, m2] h 1 4 (h0.trans (by show _ = 1; omega)) (h1.trans (by show _ = 4; omega))
  · exact histWord_congr s ![m0, m1, m2] h 1 3 (h0.trans (by show _ = 1; omega)) (h1.trans (by show _ = 3; omega))
  · exact histWord_congr s ![m0, m1, m2] h 1 2 (h0.trans (by show _ = 1; omega)) (h1.trans (by show _ = 2; omega))
  · exact histWord_congr s ![m0, m1, m2] h 1 1 (h0.trans (by show _ = 1; omega)) (h1.trans (by show _ = 1; omega))
  · exact histWord_congr s ![m0, m1, m2] h 1 0 (h0.trans (by show _ = 1; omega)) (h1.trans (by show _ = 0; omega))
  · exact histWord_congr s ![m0, m1, m2] h 0 15 (h0.trans (by show _ = 0; omega)) (h1.trans (by show _ = 15; omega))
  · exact histWord_congr s ![m0, m1, m2] h 0 14 (h0.trans (by show _ = 0; omega)) (h1.trans (by show _ = 14; omega))
  · exact histWord_congr s ![m0, m1, m2] h 0 13 (h0.trans (by show _ = 0; omega)) (h1.trans (by show _ = 13; omega))
  · exact histWord_congr s ![m0, m1, m2] h 0 12 (h0.trans (by show _ = 0; omega)) (h1.trans (by show _ = 12; omega))
  · exact histWord_congr s ![m0, m1, m2] h 0 11 (h0.trans (by show _ = 0; omega)) (h1.trans (by show _ = 11; omega))
  · exact histWord_congr s ![m0, m1, m2] h 0 10 (h0.trans (by show _ = 0; omega)) (h1.trans (by show _ = 10; omega))
  · exact histWord_congr s ![m0, m1, m2] h 0 9 (h0.trans (by show _ = 0; omega)) (h1.trans (by show _ = 9; omega))
  · exact histWord_congr s ![m0, m1, m2] h 0 8 (h0.trans (by show _ = 0; omega)) (h1.trans (by show _ = 8; omega))
  · exact histWord_congr s ![m0, m1, m2] h 0 7 (h0.trans (by show _ = 0; omega)) (h1.trans (by show _ = 7; omega))
  · exact histWord_congr s ![m0, m1, m2] h 0 6 (h0.trans (by show _ = 0; omega)) (h1.trans (by show _ = 6; omega))
  · exact histWord_congr s ![m0, m1, m2] h 0 5 (h0.trans (by show _ = 0; omega)) (h1.trans (by show _ = 5; omega))
  · exact histWord_congr s ![m0, m1, m2] h 0 4 (h0.trans (by show _ = 0; omega)) (h1.trans (by show _ = 4; omega))
  · exact histWord_congr s ![m0, m1, m2] h 0 3 (h0.trans (by show _ = 0; omega)) (h1.trans (by show _ = 3; omega))
  · exact histWord_congr s ![m0, m1, m2] h 0 2 (h0.trans (by show _ = 0; omega)) (h1.trans (by show _ = 2; omega))
  · exact histWord_congr s ![m0, m1, m2] h 0 1 (h0.trans (by show _ = 0; omega)) (h1.trans (by show _ = 1; omega))
  · exact histWord_congr s ![m0, m1, m2] h 0 0 (h0.trans (by show _ = 0; omega)) (h1.trans (by show _ = 0; omega))

set_option maxRecDepth 1000000 in
/-- The history the first grid point stores. -/
theorem out2_A_8_eq (c : Dev nD) (i : grid2.Coords) (a2 h2 a3 h3 a4 h4 a5 h5 a6 h6 a7 h7 a8 h8 a9 h9 a10 h10) (hc0 : k2_cond1 i = 1#1) (x0 : Vec F S3x16 .f32) (x1 : Vec F S1x1 .i32) (x2 x3 x4 : Vec F S16x3584 .bf16) (x5 : Vec F S12288x896 .fp8e4m3) (x6 : Vec F S12288x512 .fp8e5m2) :
    out2_A_8 c i a2 h2 a3 h3 a4 h4 a5 h5 a6 h6 a7 h7 a8 h8 a9 h9 a10 h10 hc0 x0 x1 x2 x3 x4 x5 x6 = View.canon (histPieces (x1 (ix2 0 0)) (amaxOf x2) (amaxOf x3) (amaxOf x4) fun r j => x0 (ix2 r j)) := by
  unfold out2_A_8
  rw [View.read_writes_eq_canon _ _ _ (cover2_A_8 c i a2 h2 a3 h3 a4 h4 a5 h5 a6 h6 a7 h7 a8 h8 a9 h9 a10 h10 hc0 x0 x1 x2 x3 x4 x5 x6)]
  unfold kernelRun2_A
  dsimp only
  refine (show _ = View.canon ([⟨Rect.unit (s := S3x16) ![2, 15] ![1, 1] inb_S3x16_S1x1_2_15, fun _ => histWord (rds a3 h3 x1) (amaxOf (View.readAt (Elt F) a6.view (Rect.unit (s := S16x3584) ![0, 0] ![16, 3584] inb_S16x3584_S16x3584_0_0).toLoadRect (h6.unread x4))) (rd a2 h2 x0 2 15) 15#32⟩,
   ⟨Rect.unit (s := S3x16) ![2, 14] ![1, 1] inb_S3x16_S1x1_2_14, fun _ => histWord (rds a3 h3 x1) (amaxOf (View.readAt (Elt F) a6.view (Rect.unit (s := S16x3584) ![0, 0] ![16, 3584] inb_S16x3584_S16x3584_0_0).toLoadRect (h6.unread x4))) (rd a2 h2 x0 2 14) 14#32⟩,
   ⟨Rect.unit (s := S3x16) ![2, 13] ![1, 1] inb_S3x16_S1x1_2_13, fun _ => histWord (rds a3 h3 x1) (amaxOf (View.readAt (Elt F) a6.view (Rect.unit (s := S16x3584) ![0, 0] ![16, 3584] inb_S16x3584_S16x3584_0_0).toLoadRect (h6.unread x4))) (rd a2 h2 x0 2 13) 13#32⟩,
   ⟨Rect.unit (s := S3x16) ![2, 12] ![1, 1] inb_S3x16_S1x1_2_12, fun _ => histWord (rds a3 h3 x1) (amaxOf (View.readAt (Elt F) a6.view (Rect.unit (s := S16x3584) ![0, 0] ![16, 3584] inb_S16x3584_S16x3584_0_0).toLoadRect (h6.unread x4))) (rd a2 h2 x0 2 12) 12#32⟩,
   ⟨Rect.unit (s := S3x16) ![2, 11] ![1, 1] inb_S3x16_S1x1_2_11, fun _ => histWord (rds a3 h3 x1) (amaxOf (View.readAt (Elt F) a6.view (Rect.unit (s := S16x3584) ![0, 0] ![16, 3584] inb_S16x3584_S16x3584_0_0).toLoadRect (h6.unread x4))) (rd a2 h2 x0 2 11) 11#32⟩,
   ⟨Rect.unit (s := S3x16) ![2, 10] ![1, 1] inb_S3x16_S1x1_2_10, fun _ => histWord (rds a3 h3 x1) (amaxOf (View.readAt (Elt F) a6.view (Rect.unit (s := S16x3584) ![0, 0] ![16, 3584] inb_S16x3584_S16x3584_0_0).toLoadRect (h6.unread x4))) (rd a2 h2 x0 2 10) 10#32⟩,
   ⟨Rect.unit (s := S3x16) ![2, 9] ![1, 1] inb_S3x16_S1x1_2_9, fun _ => histWord (rds a3 h3 x1) (amaxOf (View.readAt (Elt F) a6.view (Rect.unit (s := S16x3584) ![0, 0] ![16, 3584] inb_S16x3584_S16x3584_0_0).toLoadRect (h6.unread x4))) (rd a2 h2 x0 2 9) 9#32⟩,
   ⟨Rect.unit (s := S3x16) ![2, 8] ![1, 1] inb_S3x16_S1x1_2_8, fun _ => histWord (rds a3 h3 x1) (amaxOf (View.readAt (Elt F) a6.view (Rect.unit (s := S16x3584) ![0, 0] ![16, 3584] inb_S16x3584_S16x3584_0_0).toLoadRect (h6.unread x4))) (rd a2 h2 x0 2 8) 8#32⟩,
   ⟨Rect.unit (s := S3x16) ![2, 7] ![1, 1] inb_S3x16_S1x1_2_7, fun _ => histWord (rds a3 h3 x1) (amaxOf (View.readAt (Elt F) a6.view (Rect.unit (s := S16x3584) ![0, 0] ![16, 3584] inb_S16x3584_S16x3584_0_0).toLoadRect (h6.unread x4))) (rd a2 h2 x0 2 7) 7#32⟩,
   ⟨Rect.unit (s := S3x16) ![2, 6] ![1, 1] inb_S3x16_S1x1_2_6, fun _ => histWord (rds a3 h3 x1) (amaxOf (View.readAt (Elt F) a6.view (Rect.unit (s := S16x3584) ![0, 0] ![16, 3584] inb_S16x3584_S16x3584_0_0).toLoadRect (h6.unread x4))) (rd a2 h2 x0 2 6) 6#32⟩,
   ⟨Rect.unit (s := S3x16) ![2, 5] ![1, 1] inb_S3x16_S1x1_2_5, fun _ => histWord (rds a3 h3 x1) (amaxOf (View.readAt (Elt F) a6.view (Rect.unit (s := S16x3584) ![0, 0] ![16, 3584] inb_S16x3584_S16x3584_0_0).toLoadRect (h6.unread x4))) (rd a2 h2 x0 2 5) 5#32⟩,
   ⟨Rect.unit (s := S3x16) ![2, 4] ![1, 1] inb_S3x16_S1x1_2_4, fun _ => histWord (rds a3 h3 x1) (amaxOf (View.readAt (Elt F) a6.view (Rect.unit (s := S16x3584) ![0, 0] ![16, 3584] inb_S16x3584_S16x3584_0_0).toLoadRect (h6.unread x4))) (rd a2 h2 x0 2 4) 4#32⟩,
   ⟨Rect.unit (s := S3x16) ![2, 3] ![1, 1] inb_S3x16_S1x1_2_3, fun _ => histWord (rds a3 h3 x1) (amaxOf (View.readAt (Elt F) a6.view (Rect.unit (s := S16x3584) ![0, 0] ![16, 3584] inb_S16x3584_S16x3584_0_0).toLoadRect (h6.unread x4))) (rd a2 h2 x0 2 3) 3#32⟩,
   ⟨Rect.unit (s := S3x16) ![2, 2] ![1, 1] inb_S3x16_S1x1_2_2, fun _ => histWord (rds a3 h3 x1) (amaxOf (View.readAt (Elt F) a6.view (Rect.unit (s := S16x3584) ![0, 0] ![16, 3584] inb_S16x3584_S16x3584_0_0).toLoadRect (h6.unread x4))) (rd a2 h2 x0 2 2) 2#32⟩,
   ⟨Rect.unit (s := S3x16) ![2, 1] ![1, 1] inb_S3x16_S1x1_2_1, fun _ => histWord (rds a3 h3 x1) (amaxOf (View.readAt (Elt F) a6.view (Rect.unit (s := S16x3584) ![0, 0] ![16, 3584] inb_S16x3584_S16x3584_0_0).toLoadRect (h6.unread x4))) (rd a2 h2 x0 2 1) 1#32⟩,
   ⟨Rect.unit (s := S3x16) ![2, 0] ![1, 1] inb_S3x16_S1x1_2_0, fun _ => histWord (rds a3 h3 x1) (amaxOf (View.readAt (Elt F) a6.view (Rect.unit (s := S16x3584) ![0, 0] ![16, 3584] inb_S16x3584_S16x3584_0_0).toLoadRect (h6.unread x4))) (rd a2 h2 x0 2 0) 0#32⟩,
   ⟨Rect.unit (s := S3x16) ![1, 15] ![1, 1] inb_S3x16_S1x1_1_15, fun _ => histWord (rds a3 h3 x1) (amaxOf (View.readAt (Elt F) a5.view (Rect.unit (s := S16x3584) ![0, 0] ![16, 3584] inb_S16x3584_S16x3584_0_0).toLoadRect (h5.unread x3))) (rd a2 h2 x0 1 15) 15#32⟩,
   ⟨Rect.unit (s := S3x16) ![1, 14] ![1, 1] inb_S3x16_S1x1_1_14, fun _ => histWord (rds a3 h3 x1) (amaxOf (View.readAt (Elt F) a5.view (Rect.unit (s := S16x3584) ![0, 0] ![16, 3584] inb_S16x3584_S16x3584_0_0).toLoadRect (h5.unread x3))) (rd a2 h2 x0 1 14) 14#32⟩,
   ⟨Rect.unit (s := S3x16) ![1, 13] ![1, 1] inb_S3x16_S1x1_1_13, fun _ => histWord (rds a3 h3 x1) (amaxOf (View.readAt (Elt F) a5.view (Rect.unit (s := S16x3584) ![0, 0] ![16, 3584] inb_S16x3584_S16x3584_0_0).toLoadRect (h5.unread x3))) (rd a2 h2 x0 1 13) 13#32⟩,
   ⟨Rect.unit (s := S3x16) ![1, 12] ![1, 1] inb_S3x16_S1x1_1_12, fun _ => histWord (rds a3 h3 x1) (amaxOf (View.readAt (Elt F) a5.view (Rect.unit (s := S16x3584) ![0, 0] ![16, 3584] inb_S16x3584_S16x3584_0_0).toLoadRect (h5.unread x3))) (rd a2 h2 x0 1 12) 12#32⟩,
   ⟨Rect.unit (s := S3x16) ![1, 11] ![1, 1] inb_S3x16_S1x1_1_11, fun _ => histWord (rds a3 h3 x1) (amaxOf (View.readAt (Elt F) a5.view (Rect.unit (s := S16x3584) ![0, 0] ![16, 3584] inb_S16x3584_S16x3584_0_0).toLoadRect (h5.unread x3))) (rd a2 h2 x0 1 11) 11#32⟩,
   ⟨Rect.unit (s := S3x16) ![1, 10] ![1, 1] inb_S3x16_S1x1_1_10, fun _ => histWord (rds a3 h3 x1) (amaxOf (View.readAt (Elt F) a5.view (Rect.unit (s := S16x3584) ![0, 0] ![16, 3584] inb_S16x3584_S16x3584_0_0).toLoadRect (h5.unread x3))) (rd a2 h2 x0 1 10) 10#32⟩,
   ⟨Rect.unit (s := S3x16) ![1, 9] ![1, 1] inb_S3x16_S1x1_1_9, fun _ => histWord (rds a3 h3 x1) (amaxOf (View.readAt (Elt F) a5.view (Rect.unit (s := S16x3584) ![0, 0] ![16, 3584] inb_S16x3584_S16x3584_0_0).toLoadRect (h5.unread x3))) (rd a2 h2 x0 1 9) 9#32⟩,
   ⟨Rect.unit (s := S3x16) ![1, 8] ![1, 1] inb_S3x16_S1x1_1_8, fun _ => histWord (rds a3 h3 x1) (amaxOf (View.readAt (Elt F) a5.view (Rect.unit (s := S16x3584) ![0, 0] ![16, 3584] inb_S16x3584_S16x3584_0_0).toLoadRect (h5.unread x3))) (rd a2 h2 x0 1 8) 8#32⟩,
   ⟨Rect.unit (s := S3x16) ![1, 7] ![1, 1] inb_S3x16_S1x1_1_7, fun _ => histWord (rds a3 h3 x1) (amaxOf (View.readAt (Elt F) a5.view (Rect.unit (s := S16x3584) ![0, 0] ![16, 3584] inb_S16x3584_S16x3584_0_0).toLoadRect (h5.unread x3))) (rd a2 h2 x0 1 7) 7#32⟩,
   ⟨Rect.unit (s := S3x16) ![1, 6] ![1, 1] inb_S3x16_S1x1_1_6, fun _ => histWord (rds a3 h3 x1) (amaxOf (View.readAt (Elt F) a5.view (Rect.unit (s := S16x3584) ![0, 0] ![16, 3584] inb_S16x3584_S16x3584_0_0).toLoadRect (h5.unread x3))) (rd a2 h2 x0 1 6) 6#32⟩,
   ⟨Rect.unit (s := S3x16) ![1, 5] ![1, 1] inb_S3x16_S1x1_1_5, fun _ => histWord (rds a3 h3 x1) (amaxOf (View.readAt (Elt F) a5.view (Rect.unit (s := S16x3584) ![0, 0] ![16, 3584] inb_S16x3584_S16x3584_0_0).toLoadRect (h5.unread x3))) (rd a2 h2 x0 1 5) 5#32⟩,
   ⟨Rect.unit (s := S3x16) ![1, 4] ![1, 1] inb_S3x16_S1x1_1_4, fun _ => histWord (rds a3 h3 x1) (amaxOf (View.readAt (Elt F) a5.view (Rect.unit (s := S16x3584) ![0, 0] ![16, 3584] inb_S16x3584_S16x3584_0_0).toLoadRect (h5.unread x3))) (rd a2 h2 x0 1 4) 4#32⟩,
   ⟨Rect.unit (s := S3x16) ![1, 3] ![1, 1] inb_S3x16_S1x1_1_3, fun _ => histWord (rds a3 h3 x1) (amaxOf (View.readAt (Elt F) a5.view (Rect.unit (s := S16x3584) ![0, 0] ![16, 3584] inb_S16x3584_S16x3584_0_0).toLoadRect (h5.unread x3))) (rd a2 h2 x0 1 3) 3#32⟩,
   ⟨Rect.unit (s := S3x16) ![1, 2] ![1, 1] inb_S3x16_S1x1_1_2, fun _ => histWord (rds a3 h3 x1) (amaxOf (View.readAt (Elt F) a5.view (Rect.unit (s := S16x3584) ![0, 0] ![16, 3584] inb_S16x3584_S16x3584_0_0).toLoadRect (h5.unread x3))) (rd a2 h2 x0 1 2) 2#32⟩,
   ⟨Rect.unit (s := S3x16) ![1, 1] ![1, 1] inb_S3x16_S1x1_1_1, fun _ => histWord (rds a3 h3 x1) (amaxOf (View.readAt (Elt F) a5.view (Rect.unit (s := S16x3584) ![0, 0] ![16, 3584] inb_S16x3584_S16x3584_0_0).toLoadRect (h5.unread x3))) (rd a2 h2 x0 1 1) 1#32⟩,
   ⟨Rect.unit (s := S3x16) ![1, 0] ![1, 1] inb_S3x16_S1x1_1_0, fun _ => histWord (rds a3 h3 x1) (amaxOf (View.readAt (Elt F) a5.view (Rect.unit (s := S16x3584) ![0, 0] ![16, 3584] inb_S16x3584_S16x3584_0_0).toLoadRect (h5.unread x3))) (rd a2 h2 x0 1 0) 0#32⟩,
   ⟨Rect.unit (s := S3x16) ![0, 15] ![1, 1] inb_S3x16_S1x1_0_15, fun _ => histWord (rds a3 h3 x1) (amaxOf (View.readAt (Elt F) a4.view (Rect.unit (s := S16x3584) ![0, 0] ![16, 3584] inb_S16x3584_S16x3584_0_0).toLoadRect (h4.unread x2))) (rd a2 h2 x0 0 15) 15#32⟩,
   ⟨Rect.unit (s := S3x16) ![0, 14] ![1, 1] inb_S3x16_S1x1_0_14, fun _ => histWord (rds a3 h3 x1) (amaxOf (View.readAt (Elt F) a4.view (Rect.unit (s := S16x3584) ![0, 0] ![16, 3584] inb_S16x3584_S16x3584_0_0).toLoadRect (h4.unread x2))) (rd a2 h2 x0 0 14) 14#32⟩,
   ⟨Rect.unit (s := S3x16) ![0, 13] ![1, 1] inb_S3x16_S1x1_0_13, fun _ => histWord (rds a3 h3 x1) (amaxOf (View.readAt (Elt F) a4.view (Rect.unit (s := S16x3584) ![0, 0] ![16, 3584] inb_S16x3584_S16x3584_0_0).toLoadRect (h4.unread x2))) (rd a2 h2 x0 0 13) 13#32⟩,
   ⟨Rect.unit (s := S3x16) ![0, 12] ![1, 1] inb_S3x16_S1x1_0_12, fun _ => histWord (rds a3 h3 x1) (amaxOf (View.readAt (Elt F) a4.view (Rect.unit (s := S16x3584) ![0, 0] ![16, 3584] inb_S16x3584_S16x3584_0_0).toLoadRect (h4.unread x2))) (rd a2 h2 x0 0 12) 12#32⟩,
   ⟨Rect.unit (s := S3x16) ![0, 11] ![1, 1] inb_S3x16_S1x1_0_11, fun _ => histWord (rds a3 h3 x1) (amaxOf (View.readAt (Elt F) a4.view (Rect.unit (s := S16x3584) ![0, 0] ![16, 3584] inb_S16x3584_S16x3584_0_0).toLoadRect (h4.unread x2))) (rd a2 h2 x0 0 11) 11#32⟩,
   ⟨Rect.unit (s := S3x16) ![0, 10] ![1, 1] inb_S3x16_S1x1_0_10, fun _ => histWord (rds a3 h3 x1) (amaxOf (View.readAt (Elt F) a4.view (Rect.unit (s := S16x3584) ![0, 0] ![16, 3584] inb_S16x3584_S16x3584_0_0).toLoadRect (h4.unread x2))) (rd a2 h2 x0 0 10) 10#32⟩,
   ⟨Rect.unit (s := S3x16) ![0, 9] ![1, 1] inb_S3x16_S1x1_0_9, fun _ => histWord (rds a3 h3 x1) (amaxOf (View.readAt (Elt F) a4.view (Rect.unit (s := S16x3584) ![0, 0] ![16, 3584] inb_S16x3584_S16x3584_0_0).toLoadRect (h4.unread x2))) (rd a2 h2 x0 0 9) 9#32⟩,
   ⟨Rect.unit (s := S3x16) ![0, 8] ![1, 1] inb_S3x16_S1x1_0_8, fun _ => histWord (rds a3 h3 x1) (amaxOf (View.readAt (Elt F) a4.view (Rect.unit (s := S16x3584) ![0, 0] ![16, 3584] inb_S16x3584_S16x3584_0_0).toLoadRect (h4.unread x2))) (rd a2 h2 x0 0 8) 8#32⟩,
   ⟨Rect.unit (s := S3x16) ![0, 7] ![1, 1] inb_S3x16_S1x1_0_7, fun _ => histWord (rds a3 h3 x1) (amaxOf (View.readAt (Elt F) a4.view (Rect.unit (s := S16x3584) ![0, 0] ![16, 3584] inb_S16x3584_S16x3584_0_0).toLoadRect (h4.unread x2))) (rd a2 h2 x0 0 7) 7#32⟩,
   ⟨Rect.unit (s := S3x16) ![0, 6] ![1, 1] inb_S3x16_S1x1_0_6, fun _ => histWord (rds a3 h3 x1) (amaxOf (View.readAt (Elt F) a4.view (Rect.unit (s := S16x3584) ![0, 0] ![16, 3584] inb_S16x3584_S16x3584_0_0).toLoadRect (h4.unread x2))) (rd a2 h2 x0 0 6) 6#32⟩,
   ⟨Rect.unit (s := S3x16) ![0, 5] ![1, 1] inb_S3x16_S1x1_0_5, fun _ => histWord (rds a3 h3 x1) (amaxOf (View.readAt (Elt F) a4.view (Rect.unit (s := S16x3584) ![0, 0] ![16, 3584] inb_S16x3584_S16x3584_0_0).toLoadRect (h4.unread x2))) (rd a2 h2 x0 0 5) 5#32⟩,
   ⟨Rect.unit (s := S3x16) ![0, 4] ![1, 1] inb_S3x16_S1x1_0_4, fun _ => histWord (rds a3 h3 x1) (amaxOf (View.readAt (Elt F) a4.view (Rect.unit (s := S16x3584) ![0, 0] ![16, 3584] inb_S16x3584_S16x3584_0_0).toLoadRect (h4.unread x2))) (rd a2 h2 x0 0 4) 4#32⟩,
   ⟨Rect.unit (s := S3x16) ![0, 3] ![1, 1] inb_S3x16_S1x1_0_3, fun _ => histWord (rds a3 h3 x1) (amaxOf (View.readAt (Elt F) a4.view (Rect.unit (s := S16x3584) ![0, 0] ![16, 3584] inb_S16x3584_S16x3584_0_0).toLoadRect (h4.unread x2))) (rd a2 h2 x0 0 3) 3#32⟩,
   ⟨Rect.unit (s := S3x16) ![0, 2] ![1, 1] inb_S3x16_S1x1_0_2, fun _ => histWord (rds a3 h3 x1) (amaxOf (View.readAt (Elt F) a4.view (Rect.unit (s := S16x3584) ![0, 0] ![16, 3584] inb_S16x3584_S16x3584_0_0).toLoadRect (h4.unread x2))) (rd a2 h2 x0 0 2) 2#32⟩,
   ⟨Rect.unit (s := S3x16) ![0, 1] ![1, 1] inb_S3x16_S1x1_0_1, fun _ => histWord (rds a3 h3 x1) (amaxOf (View.readAt (Elt F) a4.view (Rect.unit (s := S16x3584) ![0, 0] ![16, 3584] inb_S16x3584_S16x3584_0_0).toLoadRect (h4.unread x2))) (rd a2 h2 x0 0 1) 1#32⟩,
   ⟨Rect.unit (s := S3x16) ![0, 0] ![1, 1] inb_S3x16_S1x1_0_0, fun _ => histWord (rds a3 h3 x1) (amaxOf (View.readAt (Elt F) a4.view (Rect.unit (s := S16x3584) ![0, 0] ![16, 3584] inb_S16x3584_S16x3584_0_0).toLoadRect (h4.unread x2))) (rd a2 h2 x0 0 0) 0#32⟩] : List (View.Piece (Elt F) S3x16 .f32)) from rfl).trans ?_
  refine (show _ = View.canon (histPieces (rds a3 h3 x1) (amaxOf (View.readAt (Elt F) a4.view (Rect.unit (s := S16x3584) ![0, 0] S16x3584.size inb_S16x3584_S16x3584_0_0).toLoadRect (h4.unread x2))) (amaxOf (View.readAt (Elt F) a5.view (Rect.unit (s := S16x3584) ![0, 0] S16x3584.size inb_S16x3584_S16x3584_0_0).toLoadRect (h5.unread x3))) (amaxOf (View.readAt (Elt F) a6.view (Rect.unit (s := S16x3584) ![0, 0] S16x3584.size inb_S16x3584_S16x3584_0_0).toLoadRect (h6.unread x4))) (rd a2 h2 x0)) from rfl).trans ?_
  rw [rds_eq, show rd a2 h2 x0 = fun r j => x0 (ix2 r j) from funext fun r => funext fun j => rd_eq a2 h2 x0 r j, View.readAt_eq_ld, View.readAt_eq_ld, View.readAt_eq_ld, h4.read_unread, h5.read_unread, h6.read_unread, View.ld_unit_zero (S := S16x3584) hz, View.ld_unit_zero (S := S16x3584) hz, View.ld_unit_zero (S := S16x3584) hz]

/-- Case A's block of the weight gradient. -/
theorem out2_A_7_eq (c : Dev nD) (i : grid2.Coords) (a2 h2 a3 h3 a4 h4 a5 h5 a6 h6 a7 h7 a8 h8 a9 h9 a10 h10) (hc0 : k2_cond1 i = 1#1) (x0 : Vec F S3x16 .f32) (x1 : Vec F S1x1 .i32) (x2 x3 x4 : Vec F S16x3584 .bf16) (x5 : Vec F S12288x896 .fp8e4m3) (x6 : Vec F S12288x512 .fp8e5m2) :
    out2_A_7 c i a2 h2 a3 h3 a4 h4 a5 h5 a6 h6 a7 h7 a8 h8 a9 h9 a10 h10 hc0 x0 x1 x2 x3 x4 x5 x6 = dwPay (scale (rowq 0x3B124925#32 x0 0)) (scale (rowq 0x37924925#32 x0 2)) x5 x6 := by
  unfold out2_A_7
  rw [View.read_writes_eq_canon _ _ _ (cover2_A_7 c i a2 h2 a3 h3 a4 h4 a5 h5 a6 h6 a7 h7 a8 h8 a9 h9 a10 h10 hc0 x0 x1 x2 x3 x4 x5 x6)]
  unfold kernelRun2_A
  dsimp only
  rw [View.canon_unit_zero hz, ← rowq_rd _ a2 h2, ← rowq_rd _ a2 h2, View.readAt_eq_ld, h7.read_unread, View.ld_unit_zero (S := S12288x896) hz, View.readAt_eq_ld, h8.read_unread, View.ld_unit_zero (S := S12288x512) hz]
  unfold k2_pay69
  rw [shapeCast_self x5, shapeCast_self x6]
  rfl

/-- Case B's block of the weight gradient. -/
theorem out2_B_7_eq (c : Dev nD) (i : grid2.Coords) (a2 h2 a3 h3 a4 h4 a5 h5 a6 h6 a7 h7 a8 h8 a9 h9 a10 h10) (hc0 : ¬ k2_cond1 i = 1#1) (x0 : Vec F S3x16 .f32) (x1 : Vec F S1x1 .i32) (x2 x3 x4 : Vec F S16x3584 .bf16) (x5 : Vec F S12288x896 .fp8e4m3) (x6 : Vec F S12288x512 .fp8e5m2) (xo8 : Vec F S3x16 .f32) :
    out2_B_7 c i a2 h2 a3 h3 a4 h4 a5 h5 a6 h6 a7 h7 a8 h8 a9 h9 a10 h10 hc0 x0 x1 x2 x3 x4 x5 x6 xo8 = dwPay (scale (rowq 0x3B124925#32 x0 0)) (scale (rowq 0x37924925#32 x0 2)) x5 x6 := by
  unfold out2_B_7
  rw [View.read_writes_eq_canon _ _ _ (cover2_B_7 c i a2 h2 a3 h3 a4 h4 a5 h5 a6 h6 a7 h7 a8 h8 a9 h9 a10 h10 hc0 x0 x1 x2 x3 x4 x5 x6 xo8)]
  unfold kernelRun2_B
  dsimp only
  rw [View.canon_unit_zero hz, ← rowq_rd _ a2 h2, ← rowq_rd _ a2 h2, View.readAt_eq_ld, h7.read_unread, View.ld_unit_zero (S := S12288x896) hz, View.readAt_eq_ld, h8.read_unread, View.ld_unit_zero (S := S12288x512) hz]
  unfold k2_pay69
  rw [shapeCast_self x5, shapeCast_self x6]
  rfl

end Cert.KernelIdeal.Gen
-- ==== Proof.Value.Lib.lean ====
/- Two general facts over the extended reals: a product contracted on the first axis of both operands, and a maximum taken over a whole array. -/
module

public import Idealize.ShloMosaic.Lib.MatmulPlain
public import Idealize.ShloMosaic.Lib.Pipeline.ValueKit
public import Idealize.ShloMosaic.Lib.Pointwise
public import Idealize.ShloMosaic.Lib.IdealHost
public import Idealize.ShloMosaic.Lib.Tactic

@[expose] public section
noncomputable section
namespace Cert.Quant
open Idealize.ShloMosaic Idealize.ShloMosaic.TcCoe Idealize.ShloMosaic.Tactic

/-- `[K,M]ᵀ × [K,N]`: both operands contracted on their first axis. -/
def colDims (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, List.Perm.swap _ _ _, List.Perm.swap _ _ _, rfl, Nat.two_pos,
    fun b => by fin_cases b <;> rfl⟩

theorem colDims_rank (M K N : ℕ) : (colDims M K N).contr.rank = 1 := rfl
theorem colDims_size (M K N : ℕ) : (colDims M K N).contr.size ⟨0, by rw [colDims_rank]; omega⟩ = K := rfl

/-- The product at `(r, c)`: the accumulator plus the sum of the products of column `r` and column `c`. -/
theorem colDims_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (colDims M K N) prec lhs rhs acc (ValueIdx.ix2 r c) = acc (ValueIdx.ix2 r c) + ∑ k : Fin K, lhs (ValueIdx.ix2 k r) * rhs (ValueIdx.ix2 k c) := by
  rw [Ideal.matmul_apply, ← Equiv.sum_comp (ValueIdx.contrEquiv1 _ K (colDims_rank M K N) (colDims_size M K N)).symm]
  refine congrArg (acc (ValueIdx.ix2 r c) + ·) (Finset.sum_congr rfl fun k _ => ?_)
  have hk := ValueIdx.contrEquiv1_symm_val _ K (colDims_rank M K N) (colDims_size M K N) k
  have el : (colDims M K N).lhsIdx (ValueIdx.ix2 r c) ((ValueIdx.contrEquiv1 _ K (colDims_rank M K N) (colDims_size M K N)).symm k) = ValueIdx.ix2 k r := by
    funext a; apply Fin.ext
    match a with
    | ⟨0, _⟩ => exact hk
    | ⟨1, _⟩ => rfl
  have er : (colDims M K N).rhsIdx (ValueIdx.ix2 r c) ((ValueIdx.contrEquiv1 _ K (colDims_rank M K N) (colDims_size M K N)).symm k) = ValueIdx.ix2 k c := by
    funext a; apply Fin.ext
    match a with
    | ⟨0, _⟩ => exact hk
    | ⟨1, _⟩ => rfl
  rw [el, er]

/-- The f32 word a maximum starts from is the least extended real. -/
theorem negInf_f32 : Ideal.ofBits .f32 0xFF800000#32 = ⊥ := by simp [Ideal.ofBits, Ideal.ieee]

/-- A maximum reduction whose result has one entry is at most `b` exactly when every entry is. -/
theorem total_le {s t : Shape} {axes : List (Fin s.rank)} (src : s.Idx → EReal) (h : s.Reduces axes t) (hφ : FKind.Formats .f32) (hacc : (0xFF800000#32 : BitVec 32) = FKind.maximumf.neutral .f32 hφ)
    (j : t.Idx) (ht : ∀ i : t.Idx, i = j) (b : EReal) :
    (multiReduction (F := Ideal) .maximumf axes t (src : FVec Ideal s .f32) 0xFF800000#32 h hφ hacc j : EReal) ≤ b ↔ ∀ i, src i ≤ b := by
  have key := multiReduction_maximumf_eq_fold (F := Ideal) (φ := .f32) src 0xFF800000#32 h hφ hacc j
  refine (iff_of_eq (congrArg (· ≤ b) key)).trans ?_
  have e : (FloatOps.ofBits .f32 0xFF800000#32 : Ideal .f32) = (⊥ : EReal) := negInf_f32
  refine (Finset.fold_max_le (β := EReal) (f := src) (b := FloatOps.ofBits (F := Ideal) .f32 0xFF800000#32) b).trans ?_
  rw [e]
  exact ⟨fun H i => H.2 i (Finset.mem_filter.mpr ⟨Finset.mem_univ _, ht _⟩), fun H => ⟨bot_le, fun i _ => H i⟩⟩

theorem one_idx (i j : (⟨1, ![1]⟩ : Shape).Idx) : i = j := by
  funext a
  match a with
  | ⟨0, _⟩ => exact Subsingleton.elim (α := Fin 1) _ _

/-- The same for the maximum as the programs take it: the array cast to a longer shape, reduced to one entry, and that entry read off. -/
theorem totalAt_le {s s' t u : Shape} {axes : List (Fin s'.rank)} (src : FVec Ideal s .f32) (hc : s.ShapeCasts s') (h : s'.Reduces axes t) (hφ : FKind.Formats .f32)
    (hacc : (0xFF800000#32 : BitVec 32) = FKind.maximumf.neutral .f32 hφ) (hu : t.ShapeCasts u) (pos : Fin u.rank → ℕ) (hp : ∀ a, pos a < u.size a) (ht : ∀ i j : t.Idx, i = j) (b : EReal) :
    (extractAt pos (shapeCast u (multiReduction (F := Ideal) .maximumf axes t (shapeCast s' src hc) 0xFF800000#32 h hφ hacc) hu) hp : Ideal .f32) ≤ b ↔ ∀ i, (src i : EReal) ≤ b := by
  unfold extractAt
  refine (total_le (shapeCast s' src hc) h hφ hacc (Shape.reshapeEquiv hu _) (fun i => ht _ _) b).trans ?_
  exact (Shape.reshapeEquiv hc).forall_congr_right (q := fun i => (src i : EReal) ≤ b)

end Cert.Quant
-- ==== Proof.Value.Arr2.lean ====
/- The arrays the third call (`dw`) leaves, over the extended reals, in terms of the arrays it finds. -/
module

public import proofs.«01_k».proof.Proof.Value.Region2
public import proofs.«01_k».proof.Proof.Value.Tiles1
public import proofs.«01_k».proof.Proof.Value.Amax
public import proofs.«01_k».proof.Proof.Value.Lib

@[expose] public section
set_option maxRecDepth 16384
noncomputable section
namespace Cert.KernelIdeal.Gen
open Idealize.ShloMosaic Idealize.ShloMosaic.TcCoe Idealize.ShloMosaic.Tactic
open Cert.Quant
open Idealize.ShloMosaic.Pipeline (Dat)

/-- A block of the weight gradient at an index: the column-by-column sum over the tokens, scaled back. -/
theorem dwPay_apply (s1 s2 : EReal) (X : S12288x896.Idx → EReal) (Y : S12288x512.Idx → EReal) (r : Fin 896) (j : Fin 512) :
    dwPay (F := Ideal) s1 s2 X Y (ix2 r j) = (∑ k : Fin 12288, X (ix2 k r) * Y (ix2 k j)) * (s1 * s2) := by
  have key := colDims_apply (M := 896) (K := 12288) (N := 512) (φ₁ := .fp8e4m3) (φ₂ := .fp8e5m2) none X Y (constant S896x512 .f32 0x00000000#32) r j
  have h0 : (constant S896x512 .f32 0x00000000#32 : FVec Ideal S896x512 .f32) (ix2 r j) = (0 : EReal) := zero_f32
  simp only [ix2_eq] at key
  rw [h0, zero_add] at key
  exact congrArg (fun z : EReal => z * (s1 * s2)) key

/-- The largest entry of an amax array is at most `b` exactly when every entry is. -/
theorem amaxOf_le (X : S16x3584.Idx → EReal) (b : EReal) : (amaxOf (F := Ideal) X : EReal) ≤ b ↔ ∀ i, X i ≤ b := by
  unfold amaxOf k2_pay5
  refine (totalAt_le _ _ _ _ _ _ _ _ one_idx b).trans ?_
  rw [shapeCast_self]
  rfl

section
variable {F : FTy → Type} [FloatOps F] (V : (c : Dev nD) → (b : Ref sig .tc) → Buf (Elt F) ((c : Thread nD τ).loc b))

/-- Every point stores its block of the weight gradient. -/
theorem dwAt2_eq (c : Dev nD) (t : Fin cfg2.N) : dwAt2 V c t
    = dwPay (scale (rowq 0x3B124925#32 (iblk2 V c 0 t) 0)) (scale (rowq 0x37924925#32 (iblk2 V c 0 t) 2)) (iblk2 V c 5 t) (iblk2 V c 6 t) := by
  unfold dwAt2
  split
  · rw [out2_A_7_eq]
  · rw [out2_B_7_eq]

/-- The history the last call stores, at a row and a column. -/
theorem hist2_eq (c : Dev nD) (r : Fin 3) (j : Fin 16) : hist2 V c (ix2 r j)
    = histWord ((iblk2 V c 1 t2_0 : Vec F S1x1 .i32) (ix2 0 0)) ((![amaxOf (iblk2 V c 2 t2_0), amaxOf (iblk2 V c 3 t2_0), amaxOf (iblk2 V c 4 t2_0)] : Fin 3 → F .f32) r)
        ((iblk2 V c 0 t2_0 : Vec F S3x16 .f32) (ix2 r j)) (BitVec.ofNat 32 j.val) := by
  unfold hist2
  rw [out2_A_8_eq, hist_of_pieces]

end

variable (V : (c : Dev nD) → (b : Ref sig .tc) → Buf (Elt Ideal) ((c : Thread nD τ).loc b))

theorem idx2_0 : ∀ t, win2_0.index t = ![0, 0] := by decide +kernel
theorem idx2_1 : ∀ t, win2_1.index t = ![0, 0] := by decide +kernel
theorem idx2_2 : ∀ t, win2_2.index t = ![0, 0] := by decide +kernel
theorem idx2_3 : ∀ t, win2_3.index t = ![0, 0] := by decide +kernel
theorem idx2_4 : ∀ t, win2_4.index t = ![0, 0] := by decide +kernel
theorem idx2_5 : ∀ t, win2_5.index t = ![0, t.val / 7] := by decide +kernel
theorem idx2_6 : ∀ t, win2_6.index t = ![0, t.val % 7] := by decide +kernel
theorem idx2_7 : ∀ t, win2_7.index t = ![t.val / 7, t.val % 7] := by decide +kernel
theorem idx2_8 : ∀ t, win2_8.index t = ![0, 0] := by decide +kernel

theorem iblk2_0_eq (c : Dev nD) (t : Fin cfg2.N) : iblk2 V c 0 t = V c main_arg3 := by
  funext y
  blk_ext [iblk2, idx2_0 t]
theorem iblk2_1_eq (c : Dev nD) (t : Fin cfg2.N) : iblk2 V c 1 t = V c main_v2 := by
  funext y
  blk_ext [iblk2, idx2_1 t]
theorem iblk2_2_eq (c : Dev nD) (t : Fin cfg2.N) : iblk2 V c 2 t = V c main_v4_6 := by
  funext y
  blk_ext [iblk2, idx2_2 t]
theorem iblk2_3_eq (c : Dev nD) (t : Fin cfg2.N) : iblk2 V c 3 t = V c main_v3_2 := by
  funext y
  blk_ext [iblk2, idx2_3 t]
theorem iblk2_4_eq (c : Dev nD) (t : Fin cfg2.N) : iblk2 V c 4 t = V c main_v4_7 := by
  funext y
  blk_ext [iblk2, idx2_4 t]

theorem iblk2_5_eq (c : Dev nD) (t : Fin cfg2.N) (r : Fin 12288) (j : Fin 896) :
    iblk2 V c 5 t (ix2 r j) = V c main_v4_0 (ix2 r ⟨t.val / 7 * 896 + j.val, by have := lt_of_lt_of_eq t.isLt N_2; omega⟩) := by
  blk_ext [iblk2, idx2_5 t]
theorem iblk2_6_eq (c : Dev nD) (t : Fin cfg2.N) (r : Fin 12288) (j : Fin 512) :
    iblk2 V c 6 t (ix2 r j) = V c main_v4_1 (ix2 r ⟨t.val % 7 * 512 + j.val, by omega⟩) := by
  blk_ext [iblk2, idx2_6 t]

/-- `dw`: the product of the codes over the tokens, scaled back. -/
theorem arr2_7 (c : Dev nD) (x : S12288x3584.Idx → EReal) (hx : x = V c main_v4_0) (y : S12288x3584.Idx → EReal) (hy : y = V c main_v4_1)
    (h : S3x16.Idx → EReal) (hh : h = V c main_arg3) :
    (dat2 V c).arrAt 7 cfg2.N = (fun i => (∑ k : Fin 12288, x (ix2 k (i 0)) * y (ix2 k (i 1))) * (scaleE (q 0x3B124925#32 h 0) * scaleE (q 0x37924925#32 h 2)) : S3584x3584.Idx → EReal) := by
  refine (dat2 V c).arrAt_eq_of_covers 7 _ (by decide +kernel) fun t hf z => ?_
  blk_simp
  rw [after2_7, dwAt2_eq, iblk2_0_eq V c t, ← hh]
  idx_vars z
  refine (dwPay_apply _ _ _ _ z0 z1).trans ?_
  have key : ∀ f : S3584x3584.Idx → EReal, f ((win2_7.blk t).view.emb (ix2 z0 z1)) = f (ix2 ⟨t.val / 7 * 896 + z0.val, by have := lt_of_lt_of_eq t.isLt N_2; omega⟩ ⟨t.val % 7 * 512 + z1.val, by omega⟩) := by
    intro f
    blk_ext [idx2_7 t]
  refine Eq.trans ?_ (key (fun i => (∑ k : Fin 12288, x (ix2 k (i 0)) * y (ix2 k (i 1))) * (scaleE (q 0x3B124925#32 h 0) * scaleE (q 0x37924925#32 h 2)))).symm
  refine congrArg (· * (scaleE (q 0x3B124925#32 h 0) * scaleE (q 0x37924925#32 h 2))) (Finset.sum_congr rfl fun k _ => ?_)
  rw [iblk2_5_eq, iblk2_6_eq, ← hx, ← hy]
  rfl

/-- One entry of the new history, at column `j`. -/
def histAt (s : BitVec 32) (m h : EReal) (j : Fin 16) : EReal := histWord (F := Ideal) s m h (BitVec.ofNat 32 j.val)

/-- The new history: the current amax of each row in the step's slot, the old entry elsewhere. -/
theorem arr2_8 (c : Dev nD) (h : S3x16.Idx → EReal) (hh : h = V c main_arg3) (s : S1x1.Idx → BitVec 32) (hs : s = V c main_v2)
    (X W Y : S16x3584.Idx → EReal) (hX : X = V c main_v4_6) (hW : W = V c main_v3_2) (hY : Y = V c main_v4_7) :
    (dat2 V c).arrAt 8 cfg2.N = (fun i => histAt (s (ix2 0 0)) ((![amaxOf (F := Ideal) X, amaxOf (F := Ideal) W, amaxOf (F := Ideal) Y] : Fin 3 → EReal) (i 0)) (h i) (i 1) : S3x16.Idx → EReal) := by
  refine (dat2 V c).arrAt_eq_of_covers 8 _ (by decide +kernel) fun t hf z => ?_
  blk_simp
  rw [after2_8]
  idx_vars z
  refine (hist2_eq V c z0 z1).trans ?_
  rw [iblk2_0_eq, iblk2_1_eq, iblk2_2_eq, iblk2_3_eq, iblk2_4_eq, ← hh, ← hs, ← hX, ← hW, ← hY]
  have key : ∀ f : S3x16.Idx → EReal, f ((win2_8.blk t).view.emb (ix2 z0 z1)) = f (ix2 z0 z1) := by
    intro f
    blk_ext [idx2_8 t]
  exact (key (fun i => histAt (s (ix2 0 0)) ((![amaxOf (F := Ideal) X, amaxOf (F := Ideal) W, amaxOf (F := Ideal) Y] : Fin 3 → EReal) (i 0)) (h i) (i 1))).symm

end Cert.KernelIdeal.Gen
-- ==== Proof.Value.Ends.lean ====
/- What the kernel's results hold at the end, over the extended reals, in terms of its arguments. -/
module

public import proofs.«01_k».proof.Proof.KernelIdeal.Frame
public import proofs.«01_k».proof.Proof.Value.Arr0
public import proofs.«01_k».proof.Proof.Value.Arr1
public import proofs.«01_k».proof.Proof.Value.Arr2

@[expose] public section
set_option maxRecDepth 16384
noncomputable section
namespace Cert.KernelIdeal.Gen
open Idealize.ShloMosaic Idealize.ShloMosaic.TcCoe Idealize.ShloMosaic.Tactic
open Cert.Quant
open Idealize.ShloMosaic.Pipeline (Dat)

variable (m : (ℓ : Loc nD τ sig) → Buf (Elt Ideal) ℓ) (ρ : Dev nD → PrngReg) (c : Dev nD)

/-- `x` and `dy` with their two leading axes merged, the step as a one-by-one array. -/
theorem W1_x : W1 m ρ c (Proc.devRef .tc main_v0) = shapeCast S12288x3584 (m ((c : Thread nD τ).loc main_arg0) : S6x2048x3584.Idx → EReal) shapeCasts_S6x2048x3584_S12288x3584 := by
  simp only [W1, hostOps0, StableHlo.after_cons, StableHlo.after_nil]
  rw [StableHlo.reshape_result_ne', StableHlo.reshape_result_ne', StableHlo.reshape_result'] <;> first | rfl | decide
theorem W1_dy : W1 m ρ c (Proc.devRef .tc main_v1) = shapeCast S12288x3584 (m ((c : Thread nD τ).loc main_arg2) : S6x2048x3584.Idx → EReal) shapeCasts_S6x2048x3584_S12288x3584 := by
  simp only [W1, hostOps0, StableHlo.after_cons, StableHlo.after_nil]
  rw [StableHlo.reshape_result_ne', StableHlo.reshape_result', StableHlo.reshape_result_ne'] <;> first | rfl | decide
theorem W1_step : W1 m ρ c (Proc.devRef .tc main_v2) = shapeCast S1x1 (m ((c : Thread nD τ).loc main_arg4) : S_.Idx → BitVec 32) shapeCasts_S_S1x1 := by
  simp only [W1, hostOps0, StableHlo.after_cons, StableHlo.after_nil]
  rw [StableHlo.reshape_result', StableHlo.reshape_result_ne', StableHlo.reshape_result_ne'] <;> first | rfl | decide

/-! Which buffers the later calls leave alone. -/

/-- No call writes to an array that is only read by it. -/
theorem keep0 : ∀ a ∈ [main_v0, main_v1, main_v2], ∀ w : Fin cfg0.W, Pipeline.arrRef spec0 w = a → (cfg0.win w).isOut = false :=
  ListAll.forall_mem_of_all_decide (by decide +kernel)
theorem keep1 : ∀ a ∈ [main_v2, main_v3_0, main_v3_1, main_v3_2], ∀ w : Fin cfg1.W, Pipeline.arrRef spec1 w = a → (cfg1.win w).isOut = false :=
  ListAll.forall_mem_of_all_decide (by decide +kernel)
theorem keep2 : ∀ a ∈ [main_v3_0, main_v3_1, main_v4_0, main_v4_1, main_v4_2, main_v4_3, main_v4_4, main_v4_5], ∀ w : Fin cfg2.W, Pipeline.arrRef spec2 w = a → (cfg2.win w).isOut = false :=
  ListAll.forall_mem_of_all_decide (by decide +kernel)

variable (x : S12288x3584.Idx → EReal) (hx : x = W1 m ρ c (Proc.devRef .tc main_v0)) (w : S3584x3584.Idx → EReal) (hw : w = m ((c : Thread nD τ).loc main_arg1))
  (y : S12288x3584.Idx → EReal) (hy : y = W1 m ρ c (Proc.devRef .tc main_v1)) (h : S3x16.Idx → EReal) (hh : h = m ((c : Thread nD τ).loc main_arg3))
  (s : S1x1.Idx → BitVec 32) (hs : s = W1 m ρ c (Proc.devRef .tc main_v2))

include hx in
theorem x2 : x = V2 m ρ c main_v0 := hx.trans (W2_of m ρ c main_v0 (keep0 _ (by decide))).symm
include hy in
theorem y2 : y = V2 m ρ c main_v1 := hy.trans (W2_of m ρ c main_v1 (keep0 _ (by decide))).symm
include hw in
theorem w1 : w = V1 m ρ c main_arg1 := hw.trans (W1_args m ρ c main_arg1 (by decide)).symm
include hh in
theorem h1 : h = V1 m ρ c main_arg3 := hh.trans (W1_args m ρ c main_arg3 (by decide)).symm
include hh in
theorem h2 : h = V2 m ρ c main_arg3 := hh.trans (W2_args m ρ c main_arg3 (by decide)).symm
include hh in
theorem h3 : h = V3 m ρ c main_arg3 := hh.trans (W3_args m ρ c main_arg3 (by decide)).symm
include hs in
theorem s3 : s = V3 m ρ c main_v2 :=
  hs.trans ((W3_of m ρ c main_v2 (keep1 _ (by decide))).trans (W2_of m ρ c main_v2 (keep0 _ (by decide)))).symm

/-- The three arrays of codes and the three scales. -/
def cx (x : S12288x3584.Idx → EReal) (h : S3x16.Idx → EReal) : S12288x3584.Idx → EReal := fun i => code 0x43E00000#32 0xC3E00000#32 (x i) (invE (q 0x3B124925#32 h 0))
def cw (w : S3584x3584.Idx → EReal) (h : S3x16.Idx → EReal) : S3584x3584.Idx → EReal := fun i => code 0x43E00000#32 0xC3E00000#32 (w i) (invE (q 0x3B124925#32 h 1))
def cy (y : S12288x3584.Idx → EReal) (h : S3x16.Idx → EReal) : S12288x3584.Idx → EReal := fun i => code 0x47600000#32 0xC7600000#32 (y i) (invE (q 0x37924925#32 h 2))
def sx (h : S3x16.Idx → EReal) : EReal := scaleE (q 0x3B124925#32 h 0)
def sw (h : S3x16.Idx → EReal) : EReal := scaleE (q 0x3B124925#32 h 1)
def sy (h : S3x16.Idx → EReal) : EReal := scaleE (q 0x37924925#32 h 2)

include hw hh in
theorem w2 : cw w h = V2 m ρ c main_v3_0 := ((W2_arr m ρ c 2).trans (arr0_2 (V1 m ρ) c w (w1 m ρ c w hw) h (h1 m ρ c h hh))).symm
include hx hh in
theorem x3 : cx x h = V3 m ρ c main_v4_0 := ((W3_arr m ρ c 4).trans (arr1_4 (V2 m ρ) c x (x2 m ρ c x hx) h (h2 m ρ c h hh))).symm
include hy hh in
theorem y3 : cy y h = V3 m ρ c main_v4_1 := ((W3_arr m ρ c 5).trans (arr1_5 (V2 m ρ) c y (y2 m ρ c y hy) h (h2 m ρ c h hh))).symm

/-! The ten results. -/

include hx hw hh in
theorem end_y : W4 m ρ c (Proc.devRef .tc main_v4_2) = (fun i => (∑ k : Fin 3584, cx x h (ix2 (i 0) k) * cw w h (ix2 k (i 1))) * (sx h * sw h) : S12288x3584.Idx → EReal) :=
  (W4_of m ρ c main_v4_2 (keep2 _ (by decide))).trans ((W3_arr m ρ c 6).trans (arr1_6 (V2 m ρ) c x (x2 m ρ c x hx) h (h2 m ρ c h hh) (cw w h) (w2 m ρ c w hw h hh)))

include hy hw hh in
theorem end_dx : W4 m ρ c (Proc.devRef .tc main_v4_3) = (fun i => (∑ k : Fin 3584, cy y h (ix2 (i 0) k) * cw w h (ix2 (i 1) k)) * (sy h * sw h) : S12288x3584.Idx → EReal) :=
  (W4_of m ρ c main_v4_3 (keep2 _ (by decide))).trans ((W3_arr m ρ c 7).trans (arr1_7 (V2 m ρ) c y (y2 m ρ c y hy) h (h2 m ρ c h hh) (cw w h) (w2 m ρ c w hw h hh)))

include hx hy hh in
theorem end_dw : W4 m ρ c (Proc.devRef .tc main_v5_0) = (fun i => (∑ k : Fin 12288, cx x h (ix2 k (i 0)) * cy y h (ix2 k (i 1))) * (sx h * sy h) : S3584x3584.Idx → EReal) :=
  (W4_arr m ρ c 7).trans (arr2_7 (V3 m ρ) c (cx x h) (x3 m ρ c x hx h hh) (cy y h) (y3 m ρ c y hy h hh) h (h3 m ρ c h hh))

include hx hh in
theorem end_xc : W4 m ρ c (Proc.devRef .tc main_v4_0) = (cx x h : S12288x3584.Idx → EReal) :=
  (W4_of m ρ c main_v4_0 (keep2 _ (by decide))).trans (x3 m ρ c x hx h hh).symm

include hh in
theorem end_xs : W4 m ρ c (Proc.devRef .tc main_v4_4) = (fun _ => sx h : S1x1.Idx → EReal) :=
  (W4_of m ρ c main_v4_4 (keep2 _ (by decide))).trans ((W3_arr m ρ c 8).trans (arr1_8 (V2 m ρ) c h (h2 m ρ c h hh)))

include hw hh in
theorem end_wc : W4 m ρ c (Proc.devRef .tc main_v3_0) = (cw w h : S3584x3584.Idx → EReal) :=
  (W4_of m ρ c main_v3_0 (keep2 _ (by decide))).trans ((W3_of m ρ c main_v3_0 (keep1 _ (by decide))).trans (w2 m ρ c w hw h hh).symm)

include hh in
theorem end_ws : W4 m ρ c (Proc.devRef .tc main_v3_1) = (fun _ => sw h : S1x1.Idx → EReal) :=
  (W4_of m ρ c main_v3_1 (keep2 _ (by decide))).trans ((W3_of m ρ c main_v3_1 (keep1 _ (by decide))).trans ((W2_arr m ρ c 3).trans (arr0_3 (V1 m ρ) c h (h1 m ρ c h hh))))

include hy hh in
theorem end_dyc : W4 m ρ c (Proc.devRef .tc main_v4_1) = (cy y h : S12288x3584.Idx → EReal) :=
  (W4_of m ρ c main_v4_1 (keep2 _ (by decide))).trans (y3 m ρ c y hy h hh).symm

include hh in
theorem end_dys : W4 m ρ c (Proc.devRef .tc main_v4_5) = (fun _ => sy h : S1x1.Idx → EReal) :=
  (W4_of m ρ c main_v4_5 (keep2 _ (by decide))).trans ((W3_arr m ρ c 9).trans (arr1_9 (V2 m ρ) c h (h2 m ρ c h hh)))

include hx hw hy hh hs in
/-- The new history holds, in the step's slot, three numbers that are the largest magnitudes of `x`, the weight and `dy`. -/
theorem end_hist : ∃ a b d : EReal, (∀ z, a ≤ z ↔ ∀ i, mag (x i) ≤ z) ∧ (∀ z, b ≤ z ↔ ∀ i, mag (w i) ≤ z) ∧ (∀ z, d ≤ z ↔ ∀ i, mag (y i) ≤ z)
    ∧ W4 m ρ c (Proc.devRef .tc main_v5_1) = (fun i => histAt (s (ix2 0 0)) ((![a, b, d] : Fin 3 → EReal) (i 0)) (h i) (i 1) : S3x16.Idx → EReal) := by
  refine ⟨_, _, _, ?_, ?_, ?_, (W4_arr m ρ c 8).trans (arr2_8 (V3 m ρ) c h (h3 m ρ c h hh) s (s3 m ρ c s hs) _ _ _ rfl rfl rfl)⟩
  · exact fun z => (amaxOf_le _ z).trans (arr1_10 (V2 m ρ) c x (x2 m ρ c x hx) _ (W3_arr m ρ c 10) z)
  · exact fun z => (amaxOf_le _ z).trans (arr0_4 (V1 m ρ) c w (w1 m ρ c w hw) _ ((W3_of m ρ c main_v3_2 (keep1 _ (by decide))).trans (W2_arr m ρ c 4)) z)
  · exact fun z => (amaxOf_le _ z).trans (arr1_11 (V2 m ρ) c y (y2 m ρ c y hy) _ (W3_arr m ρ c 11) z)

end Cert.KernelIdeal.Gen
-- ==== Proof.Value.Scale.lean ====
/- The quantiser's scale over the extended reals: the kernel's search over exponent fields finds the power of two the plain formula names. -/
module

public import proofs.«01_k».proof.Proof.Value.Amax

@[expose] public section
noncomputable section
namespace Cert.Quant
open Idealize.ShloMosaic Idealize.ShloMosaic.TcCoe Idealize.ShloMosaic.Tactic
open Cert.KernelIdeal (S3x16)

/-- The number whose pattern is exponent field `n` and no other bit. -/
def T (n : ℕ) : EReal := Ideal.ofBits .f32 (BitVec.ofNat 32 n <<< 23)

/-- A normal exponent field is a power of two. -/
theorem T_eq (n : ℕ) (h1 : 1 ≤ n) (h2 : n ≤ 254) : T n = (((2 : ℝ) ^ ((n : ℤ) - 127) : ℝ) : EReal) := by
  have e1 : ((BitVec.ofNat 32 n <<< 23).extractLsb' 23 8).toNat = n := by
    simp only [BitVec.extractLsb'_toNat, BitVec.toNat_shiftLeft, BitVec.toNat_ofNat, Nat.shiftRight_eq_div_pow, Nat.shiftLeft_eq]; omega
  have e2 : ((BitVec.ofNat 32 n <<< 23).extractLsb' 0 23).toNat = 0 := by
    simp only [BitVec.extractLsb'_toNat, BitVec.toNat_shiftLeft, BitVec.toNat_ofNat, Nat.shiftRight_eq_div_pow, Nat.shiftLeft_eq]; omega
  have e3 : ((BitVec.ofNat 32 n <<< 23).extractLsb' 31 1 == 1#1) = false := by
    rw [beq_eq_false_iff_ne]
    intro h
    have := congrArg BitVec.toNat h
    simp only [BitVec.extractLsb'_toNat, BitVec.toNat_shiftLeft, BitVec.toNat_ofNat, Nat.shiftRight_eq_div_pow, Nat.shiftLeft_eq] at this; omega
  unfold T Ideal.ofBits Ideal.ieee
  dsimp only
  rw [e1, e2, e3]
  rw [if_neg (by omega), if_neg (by omega)]
  refine congrArg (fun r : ℝ => (r : EReal)) ?_
  have e4 : (n : ℤ) - 127 = (23 : ℤ) + ((n : ℤ) - (2 ^ (8 - 1) - 1) - (23 : ℕ)) := by push_cast; ring
  rw [e4, zpow_add₀ (by norm_num)]
  refine congrArg (· * (2 : ℝ) ^ ((n : ℤ) - (2 ^ (8 - 1) - 1) - (23 : ℕ))) ?_
  push_cast
  norm_num

/-- The float of field 0 is zero. -/
theorem T_zero : T 0 = 0 := by unfold T; simp [Ideal.ofBits, Ideal.ieee]

/-- The float of field 255 is infinity. -/
theorem T_top : T 255 = ⊤ := by unfold T; simp [Ideal.ofBits, Ideal.ieee]

/-- The floats grow with their field. -/
theorem T_le {n m : ℕ} (h : n ≤ m) (hm : m ≤ 255) : T n ≤ T m := by
  rcases Nat.eq_zero_or_pos n with rfl | hn
  · rw [T_zero]
    rcases Nat.eq_zero_or_pos m with rfl | hm0
    · rw [T_zero]
    · rcases Nat.lt_or_ge m 255 with hm' | hm'
      · rw [T_eq m hm0 (by omega)]; exact_mod_cast (zpow_pos (by norm_num : (0 : ℝ) < 2) _).le
      · rw [show m = 255 by omega, T_top]; exact le_top
  · rcases Nat.lt_or_ge m 255 with hm' | hm'
    · rw [T_eq m (by omega) (by omega), T_eq n hn (by omega)]
      exact EReal.coe_le_coe_iff.mpr (zpow_le_zpow_right₀ (by norm_num : (1 : ℝ) ≤ 2) (by omega))
    · rw [show m = 255 by omega, T_top]; exact le_top

/-- The float whose bits are the field, shifted into place. -/
theorem T_shl (n : ℕ) (h : n ≤ 255) : Ideal.ofBits .f32 (Scalar.shli (BitVec.ofNat 32 n) 23#32) = T n := by
  unfold T
  rfl

/-- One step of the search keeps the bracket and halves it. -/
theorem step_spec (v : EReal) (n k : ℕ) (hk : 1 ≤ k) (hn : n + 2 * k ≤ 256) (h1 : T n ≤ v) (h2 : n + 2 * k ≤ 255 → v < T (n + 2 * k)) :
    ∃ n', step (F := Ideal) v (BitVec.ofNat 32 k) (BitVec.ofNat 32 n) = BitVec.ofNat 32 n' ∧ n' + k ≤ 256 ∧ T n' ≤ v ∧ (n' + k ≤ 255 → v < T (n' + k)) := by
  have e : Scalar.addi (BitVec.ofNat 32 n) (BitVec.ofNat 32 k) = BitVec.ofNat 32 (n + k) := by
    show BitVec.ofNat 32 n + BitVec.ofNat 32 k = _
    rw [BitVec.ofNat_add]
  have e' : step (F := Ideal) v (BitVec.ofNat 32 k) (BitVec.ofNat 32 n) = if T (n + k) ≤ v then BitVec.ofNat 32 (n + k) else BitVec.ofNat 32 n := by
    unfold step
    rw [e]
    show Scalar.select (BitVec.ofBool (decide (Ideal.ofBits .f32 (Scalar.shli (BitVec.ofNat 32 (n + k)) 23#32) ≤ v))) _ _ = _
    rw [T_shl (n + k) (by omega)]
    by_cases h : T (n + k) ≤ v
    · rw [if_pos h]; simp [Scalar.select, h]
    · rw [if_neg h]; simp [Scalar.select, h]
  rw [e']
  by_cases h : T (n + k) ≤ v
  · rw [if_pos h]
    refine ⟨n + k, rfl, by omega, h, fun h' => ?_⟩
    have := h2 (by omega)
    rwa [show n + k + k = n + 2 * k by omega]
  · rw [if_neg h]
    exact ⟨n, rfl, by omega, h1, fun _ => not_le.mp h⟩

/-- The search finds the exponent field of a non-negative number. -/
theorem field_spec (v : EReal) (h0 : 0 ≤ v) : ∃ n, field (F := Ideal) v = BitVec.ofNat 32 n ∧ n ≤ 255 ∧ T n ≤ v ∧ (n + 1 ≤ 255 → v < T (n + 1)) := by
  obtain ⟨n1, e1, b1, l1, u1⟩ := step_spec v 0 128 (by omega) (by omega) (by rw [T_zero]; exact h0) (fun h => absurd h (by omega))
  obtain ⟨n2, e2, b2, l2, u2⟩ := step_spec v n1 64 (by omega) (by omega) l1 u1
  obtain ⟨n3, e3, b3, l3, u3⟩ := step_spec v n2 32 (by omega) (by omega) l2 u2
  obtain ⟨n4, e4, b4, l4, u4⟩ := step_spec v n3 16 (by omega) (by omega) l3 u3
  obtain ⟨n5, e5, b5, l5, u5⟩ := step_spec v n4 8 (by omega) (by omega) l4 u4
  obtain ⟨n6, e6, b6, l6, u6⟩ := step_spec v n5 4 (by omega) (by omega) l5 u5
  obtain ⟨n7, e7, b7, l7, u7⟩ := step_spec v n6 2 (by omega) (by omega) l6 u6
  obtain ⟨n8, e8, b8, l8, u8⟩ := step_spec v n7 1 (by omega) (by omega) l7 u7
  refine ⟨n8, ?_, by omega, l8, u8⟩
  unfold field
  rw [e1, e2, e3, e4, e5, e6, e7, e8]

theorem T_127 : T 127 = 1 := by rw [T_eq 127 (by omega) (by omega)]; norm_num

/-- Of a number below `2^120` the kernel's scale and inverse are both one below the normal numbers, and else the next power of two and its inverse. -/
theorem scale_spec (v : EReal) (h0 : 0 ≤ v) (h : v < T 247) :
    (v < T 1 ∧ scaleE v = 1 ∧ invE v = 1) ∨ ∃ n, 1 ≤ n ∧ n ≤ 246 ∧ T n ≤ v ∧ v < T (n + 1) ∧ scaleE v = T (n + 1) ∧ invE v = T (253 - n) := by
  obtain ⟨n, e, b, l, u⟩ := field_spec v h0
  have hn : n ≤ 246 := by
    by_contra hc
    exact absurd (lt_of_le_of_lt ((T_le (by omega : 247 ≤ n) b).trans l) h) (lt_irrefl _)
  rcases Nat.eq_zero_or_pos n with rfl | hp
  · left
    have ex : expo (F := Ideal) v = 0#32 := by unfold expo; rw [e]; rfl
    refine ⟨u (by omega), ?_, ?_⟩
    · unfold scaleE scale; rw [ex]; exact (T_shl 127 (by omega)).trans T_127
    · unfold invE inv; rw [ex]; exact (T_shl 127 (by omega)).trans T_127
  · right
    have ex : expo (F := Ideal) v = BitVec.ofNat 32 n - 126#32 := by
      unfold expo; rw [e]
      have c1 : Scalar.cmpi .eq (BitVec.ofNat 32 n) 0#32 = 0#1 := by
        have : BitVec.ofNat 32 n ≠ 0#32 := by
          intro hc; have := congrArg BitVec.toNat hc; simp at this; omega
        show BitVec.ofBool (_ == _) = _
        rw [beq_eq_false_iff_ne.mpr this]; rfl
      have c2 : Scalar.cmpi .eq (BitVec.ofNat 32 n) 255#32 = 0#1 := by
        have : BitVec.ofNat 32 n ≠ 255#32 := by
          intro hc; have := congrArg BitVec.toNat hc; simp at this; omega
        show BitVec.ofBool (_ == _) = _
        rw [beq_eq_false_iff_ne.mpr this]; rfl
      rw [c1, c2]
      rfl
    refine ⟨n, hp, hn, l, u (by omega), ?_, ?_⟩
    · unfold scaleE scale; rw [ex]
      have : Scalar.addi (BitVec.ofNat 32 n - 126#32) 127#32 = BitVec.ofNat 32 (n + 1) := by
        show BitVec.ofNat 32 n - 126#32 + 127#32 = _
        apply BitVec.eq_of_toNat_eq
        simp only [BitVec.toNat_add, BitVec.toNat_sub, BitVec.toNat_ofNat]; omega
      rw [this]
      exact T_shl (n + 1) (by omega)
    · unfold invE inv; rw [ex]
      have : Scalar.addi (Scalar.subi 0#32 (BitVec.ofNat 32 n - 126#32)) 127#32 = BitVec.ofNat 32 (253 - n) := by
        show 0#32 - (BitVec.ofNat 32 n - 126#32) + 127#32 = _
        apply BitVec.eq_of_toNat_eq
        simp only [BitVec.toNat_add, BitVec.toNat_sub, BitVec.toNat_ofNat]; omega
      rw [this]
      exact T_shl (253 - n) (by omega)

/-- The power of two at place `k` of the reference's table, `2^(k − 128)`. -/
def power (k : ℕ) : EReal := (((2 : ℝ) ^ ((k : ℤ) - 128) : ℝ) : EReal)

/-- The table and the floats of each field are the same powers, one place apart. -/
theorem power_succ (n : ℕ) (h1 : 1 ≤ n) (h2 : n ≤ 254) : power (n + 1) = T n := by
  rw [T_eq n h1 h2]; unfold power; congr 2; push_cast; ring

/-- The powers grow. -/
theorem power_mono {a b : ℕ} (h : a ≤ b) : power a ≤ power b := by
  unfold power
  exact EReal.coe_le_coe_iff.mpr (zpow_le_zpow_right₀ (by norm_num : (1 : ℝ) ≤ 2) (by omega))

/-- The plain formula, given the largest power of two of the table that is at most `v`: one below the normal numbers, else twice that power. -/
def plainScale (v below : EReal) : EReal := if v < T 1 then 1 else 2 * below

/-- The next field doubles the float. -/
theorem two_T (n : ℕ) (h1 : 1 ≤ n) (h2 : n ≤ 253) : 2 * T n = T (n + 1) := by
  rw [T_eq n h1 (by omega), T_eq (n + 1) (by omega) (by omega)]
  have : (2 : EReal) = ((2 : ℝ) : EReal) := rfl
  rw [this, ← EReal.coe_mul]
  congr 1
  rw [show ((n + 1 : ℕ) : ℤ) - 127 = 1 + ((n : ℤ) - 127) by push_cast; ring, zpow_add₀ (by norm_num)]
  norm_num

/-- The largest power at most `v` is the one the kernel's field names. -/
theorem below_eq (v below : EReal) (hb : ∀ b, below ≤ b ↔ ∀ k : Fin 256, (if power k.val ≤ v then power k.val else 0) ≤ b)
    (n : ℕ) (h1 : 1 ≤ n) (h2 : n ≤ 246) (l : T n ≤ v) (u : v < T (n + 1)) : below = T n := by
  apply le_antisymm
  · refine (hb _).mpr fun k => ?_
    by_cases hk : power k.val ≤ v
    · rw [if_pos hk]
      have : k.val ≤ n + 1 := by
        by_contra hc
        have h3 : power (n + 1 + 1) ≤ power k.val := power_mono (by omega)
        rw [power_succ (n + 1) (by omega) (by omega)] at h3
        exact absurd (lt_of_le_of_lt (h3.trans hk) u) (lt_irrefl _)
      rw [← power_succ n h1 (by omega)]
      exact power_mono this
    · rw [if_neg hk, ← T_zero]
      exact T_le (by omega) (by omega)
  · have := (hb below).mp le_rfl ⟨n + 1, by omega⟩
    rw [show (⟨n + 1, by omega⟩ : Fin 256).val = n + 1 from rfl, power_succ n h1 (by omega), if_pos l] at this
    exact this

/-- The two scales agree, -/
theorem plainScale_eq (v below : EReal) (h0 : 0 ≤ v) (h : v < T 247) (hb : ∀ b, below ≤ b ↔ ∀ k : Fin 256, (if power k.val ≤ v then power k.val else 0) ≤ b) :
    plainScale v below = scaleE v := by
  unfold plainScale
  rcases scale_spec v h0 h with ⟨a, b, _⟩ | ⟨n, h1, h2, l, u, e, _⟩
  · rw [if_pos a, b]
  · rw [if_neg (not_lt.mpr ((T_le h1 (by omega)).trans l)), below_eq v below hb n h1 h2 l u, two_T n h1 (by omega), e]

/-- and the kernel's inverse is one over the scale. -/
theorem inv_eq (v : EReal) (h0 : 0 ≤ v) (h : v < T 247) : Ideal.div 1 (scaleE v) = invE v := by
  rcases scale_spec v h0 h with ⟨_, a, b⟩ | ⟨n, h1, h2, l, u, e, e'⟩
  · rw [a, b]; unfold Ideal.div; rw [if_neg one_ne_zero]; simp
  · rw [e, e', T_eq (n + 1) (by omega) (by omega), T_eq (253 - n) (by omega) (by omega)]
    have hp : (2 : ℝ) ^ (((n + 1 : ℕ) : ℤ) - 127) ≠ 0 := (zpow_pos (by norm_num) _).ne'
    unfold Ideal.div
    rw [if_neg (by exact_mod_cast hp), one_mul, ← EReal.coe_inv, ← zpow_neg]
    congr 2
    omega

/-- The largest finite number of the format. -/
def M : EReal := Ideal.ofBits .f32 0x7F7FFFFF#32

/-- The largest finite f32 as a real number. -/
theorem M_eq : M = (((16777215 : ℝ) * 2 ^ (104 : ℤ) : ℝ) : EReal) := by
  unfold M
  simp [Ideal.ofBits, Ideal.ieee]

/-- A magnitude is bounded from both sides. -/
theorem mag_le (x b : EReal) : mag x ≤ b ↔ x ≤ b ∧ -b ≤ x := by
  unfold mag
  rw [max_le_iff]
  exact and_congr_right fun _ => EReal.neg_le

/-- A finite number times a constant at most `2^-8` is below `2^120`. -/
theorem bound (c : BitVec 32) (k : ℝ) (hc : Ideal.ofBits .f32 c = (k : EReal)) (h0 : 0 ≤ k) (h1 : k ≤ 2 ^ (-8 : ℤ)) (a : EReal) (ha : mag a ≤ M) :
    mag (a * Ideal.ofBits .f32 c) < T 247 := by
  rw [hc, T_eq 247 (by omega) (by omega)]
  rw [mag_le, M_eq] at ha
  obtain ⟨u, l⟩ := ha
  rw [← EReal.coe_neg] at l
  lift a to ℝ using ⟨ne_top_of_le_ne_top (EReal.coe_ne_top _) u, ne_bot_of_le_ne_bot (EReal.coe_ne_bot _) l⟩
  have u' : a ≤ 16777215 * 2 ^ (104 : ℤ) := by exact_mod_cast u
  have l' : -(16777215 * 2 ^ (104 : ℤ)) ≤ a := by exact_mod_cast l
  unfold mag
  rw [← EReal.coe_mul, ← EReal.coe_neg]
  have key : (16777215 * 2 ^ (104 : ℤ) : ℝ) * k < 2 ^ (((247 : ℕ) : ℤ) - 127) := by
    have : (16777215 * 2 ^ (104 : ℤ) : ℝ) * k ≤ 16777215 * 2 ^ (104 : ℤ) * 2 ^ (-8 : ℤ) := mul_le_mul_of_nonneg_left h1 (by positivity)
    refine lt_of_le_of_lt this ?_
    norm_num
  refine max_lt ?_ ?_
  · exact_mod_cast lt_of_le_of_lt (mul_le_mul_of_nonneg_right u' h0) key
  · have h3 : -(a * k) ≤ 16777215 * 2 ^ (104 : ℤ) * k := by
      have := mul_le_mul_of_nonneg_right l' h0
      linarith
    exact_mod_cast lt_of_le_of_lt h3 key

/-- The largest entry of a row is at most `b` exactly when every entry is. -/
theorem chain_le (h : Fin 16 → EReal) (b : EReal) : (chain (F := Ideal) h : EReal) ≤ b ↔ ∀ j, h j ≤ b := by
  unfold chain
  show max (max (max (max (max (max (max (max (max (max (max (max (max (max (max (h 0) (h 1)) (h 2)) (h 3)) (h 4)) (h 5)) (h 6)) (h 7)) (h 8)) (h 9)) (h 10)) (h 11)) (h 12)) (h 13)) (h 14)) (h 15) ≤ b ↔ _
  simp only [max_le_iff]
  constructor
  · rintro H j
    fin_cases j <;> simp only [Fin.isValue] <;> tauto
  · intro H
    refine ⟨⟨⟨⟨⟨⟨⟨⟨⟨⟨⟨⟨⟨⟨⟨?_, ?_⟩, ?_⟩, ?_⟩, ?_⟩, ?_⟩, ?_⟩, ?_⟩, ?_⟩, ?_⟩, ?_⟩, ?_⟩, ?_⟩, ?_⟩, ?_⟩, ?_⟩ <;> exact H _

/-- The scaled row maximum in plain words. -/
theorem q_eq (c : BitVec 32) (h : S3x16.Idx → EReal) (r : Fin 3) : q c h r = mag ((chain (F := Ideal) fun j => h (ix2 r j) : EReal) * Ideal.ofBits .f32 c) := by
  unfold q rowq absq mag
  show max _ (Ideal.ofBits .f32 0x00000000#32 - _) = _
  rw [Ideal.ofBits_zero_f32, zero_sub]
  rfl

/-- The scaled amax is not negative. -/
theorem q_nonneg (c : BitVec 32) (h : S3x16.Idx → EReal) (r : Fin 3) : 0 ≤ q c h r := by rw [q_eq]; exact mag_nonneg _

/-- If every entry of a row is bounded, so is its maximum. -/
theorem chain_mag (h : Fin 16 → EReal) (H : ∀ j, mag (h j) ≤ M) : mag (chain (F := Ideal) h) ≤ M := by
  rw [mag_le]
  refine ⟨(chain_le h M).mpr fun j => ((mag_le _ _).mp (H j)).1, ((mag_le _ _).mp (H 0)).2.trans ((chain_le h _).mp le_rfl 0)⟩

/-- The two constants: nearest `1/448` and nearest `1/57344`. -/
theorem q_lt_x (h : S3x16.Idx → EReal) (H : ∀ i, mag (h i) ≤ M) (r : Fin 3) : q 0x3B124925#32 h r < T 247 := by
  rw [q_eq]
  refine bound _ (9586981 * 2 ^ (-32 : ℤ)) ?_ (by positivity) (by norm_num) _ (chain_mag _ fun j => H _)
  simp [Ideal.ofBits, Ideal.ieee]

/-- With a finite history, the scaled amax of `dy` is below the point where the inverse scale would vanish. -/
theorem q_lt_y (h : S3x16.Idx → EReal) (H : ∀ i, mag (h i) ≤ M) (r : Fin 3) : q 0x37924925#32 h r < T 247 := by
  rw [q_eq]
  refine bound _ (9586981 * 2 ^ (-39 : ℤ)) ?_ (by positivity) (by norm_num) _ (chain_mag _ fun j => H _)
  simp [Ideal.ofBits, Ideal.ieee]

end Cert.Quant
-- ==== Proof.Value.RefScale.lean ====
/- The reference's scales over the extended reals: each is the scale the kernel finds, while the history is finite. -/
module

public import proofs.«01_k».proof.Proof.Gen.ReferenceIdeal.Skeleton
public import proofs.«01_k».proof.Proof.Value.Scale
public import proofs.«01_k».proof.Proof.Value.Lib

@[expose] public section
noncomputable section
namespace Cert.Quant
open Idealize.ShloMosaic Idealize.ShloMosaic.TcCoe Idealize.ShloMosaic.Tactic
open Cert.ReferenceIdeal Cert.ReferenceIdeal.Gen

theorem T_one : Ideal.ofBits .f32 0x00800000#32 = T 1 := rfl

theorem f32_one : Ideal.ofBits .f32 0x3F800000#32 = 1 := T_127

theorem f32_two : Ideal.ofBits .f32 0x40000000#32 = 2 := by
  have h : Ideal.ofBits .f32 0x40000000#32 = T 128 := rfl
  rw [h, ← two_T 127 (by omega) (by omega), T_127, mul_one]

/-- The reference's table of powers of two, as it computes it. -/
def table : FVec Ideal S1x256 .f32 := exp2 (sitofp .f32 (subi (iota .tc S1x256 32 [1] iota_S1x256_d1_w32) (broadcast S1x256 128#32)))

/-- Subtracting 128 from a column number does not wrap, read as a signed word. -/
theorem word_sub : ∀ k : Fin 256, (BitVec.ofNat 32 k.val - 128#32 : BitVec 32).toInt = (k.val : ℤ) - 128 := by decide +kernel

/-- The table of the reference holds the powers of two, in order. -/
theorem table_apply (i : S1x256.Idx) : table i = power (i 1).val := by
  have h : (i 1).val < 256 := (i 1).isLt
  unfold table
  show Ideal.exp2 (((iota .tc S1x256 32 [1] iota_S1x256_d1_w32 i - 128#32 : BitVec 32).toInt : ℝ) : EReal) = _
  rw [iota_single_apply, Ideal.exp2_coe]
  have e : (BitVec.ofNat 32 (i 1).val - 128#32 : BitVec 32).toInt = ((i 1).val : ℤ) - 128 := word_sub (i 1)
  rw [e]
  unfold power
  refine congrArg (fun r : ℝ => (r : EReal)) ?_
  exact Real.rpow_intCast 2 _

/-- The largest power of the table that is at most `v`, as the reference takes it. -/
def below (v : FVec Ideal S1x256 .f32) : FVec Ideal S1 .f32 :=
  multiReduction .maximumf [1] S1 (select (cmpf .ole table v) table (broadcast S1x256 (Scalar.ofBits .f32 0x00000000#32))) 0xFF800000#32 reduces_S1x256_S1 (.inl rfl) rfl

/-- The greatest power in the table not above `v`, by its upper bounds. -/
theorem below_le (v : EReal) (j : S1.Idx) (b : EReal) : (below (fun _ => v) j : EReal) ≤ b ↔ ∀ k : Fin 256, (if power k.val ≤ v then power k.val else 0) ≤ b := by
  unfold below
  refine (total_le _ reduces_S1x256_S1 (.inl rfl) rfl j (fun i => one_idx _ _) b).trans ?_
  have e : ∀ i : S1x256.Idx, (select (cmpf .ole table (fun _ => v)) table (broadcast S1x256 (Scalar.ofBits .f32 0x00000000#32)) : FVec Ideal S1x256 .f32) i = if power (i 1).val ≤ v then power (i 1).val else 0 := by
    intro i
    show Scalar.select (BitVec.ofBool (decide (table i ≤ v))) (table i) (Ideal.ofBits .f32 0x00000000#32) = _
    rw [table_apply, Ideal.ofBits_zero_f32]
    by_cases h : power (i 1).val ≤ v
    · rw [if_pos h]; simp [Scalar.select, h]
    · rw [if_neg h]; simp [Scalar.select, h]
  constructor
  · intro H k
    have := H (ix2 0 k)
    rw [e] at this
    exact this
  · intro H i
    rw [e]
    exact H (i 1)

/-- The largest entry of a row, as the reference takes it. -/
def top (x : FVec Ideal S1x16 .f32) : FVec Ideal S1 .f32 := multiReduction .maximumf [1] S1 x 0xFF800000#32 reduces_S1x16_S1 (.inl rfl) rfl

/-- The maximum of a history row in the reference is the chain of maxima in the kernel. -/
theorem top_eq (x : S1x16.Idx → EReal) (j : S1.Idx) : (top x j : EReal) = chain (F := Ideal) fun k => x (ix2 0 k) := by
  have h : ∀ b : EReal, (top x j : EReal) ≤ b ↔ (chain (F := Ideal) (fun k => x (ix2 0 k)) : EReal) ≤ b := by
    intro b
    rw [chain_le]
    refine (total_le x reduces_S1x16_S1 (.inl rfl) rfl j (fun i => one_idx _ _) b).trans ⟨fun H k => H _, fun H i => ?_⟩
    have e : i = ix2 0 (i 1) := by
      funext a
      match a with
      | ⟨0, _⟩ => exact Subsingleton.elim (α := Fin 1) _ _
      | ⟨1, _⟩ => rfl
    rw [e]
    exact H (i 1)
  exact le_antisymm ((h _).mpr le_rfl) ((h _).mp le_rfl)

/-- The scale as the reference computes it from a row's scaled magnitude. -/
def refScale (v : FVec Ideal S1x1 .f32) : FVec Ideal S1x1 .f32 :=
  select (cmpf .olt v (broadcast S1x1 (Scalar.ofBits .f32 0x00800000#32))) (broadcast S1x1 (Scalar.ofBits .f32 0x3F800000#32))
    (mulf (broadcast S1x1 (Scalar.ofBits .f32 0x40000000#32)) (shapeCast S1x1 (below (broadcastTo S1x256 v broadcasts_S1x1_S1x256)) shapeCasts_S1_S1x1))

/-- The scale of the reference is the scale of the kernel. -/
theorem refScale_eq (v : EReal) (h0 : 0 ≤ v) (h : v < T 247) : refScale (fun _ => v) = fun _ => scaleE v := by
  funext i
  rw [← plainScale_eq v (below (fun _ => v) (Shape.reshapeEquiv shapeCasts_S1_S1x1 i)) h0 h (below_le v _)]
  unfold refScale plainScale
  show Scalar.select (BitVec.ofBool (decide (v < Ideal.ofBits .f32 0x00800000#32))) (Ideal.ofBits .f32 0x3F800000#32) (Ideal.ofBits .f32 0x40000000#32 * _) = _
  rw [T_one, f32_one, f32_two]
  by_cases hc : v < T 1
  · rw [if_pos hc]; simp [Scalar.select, hc]
  · rw [if_neg hc]; simp only [Scalar.select, hc, decide_false]; rfl

/-- The scaled magnitude of a row as the reference computes it. -/
def refq (c : BitVec 32) (x : FVec Ideal S1x16 .f32) : FVec Ideal S1x1 .f32 := absf (mulf (shapeCast S1x1 (top x) shapeCasts_S1_S1x1) (broadcast S1x1 (Scalar.ofBits .f32 c)))

/-- The scaled amax of the reference is the scaled amax of the kernel. -/
theorem refq_eq (c : BitVec 32) (h : S3x16.Idx → EReal) (r : Fin 3) (x : S1x16.Idx → EReal) (hx : ∀ k, x (ix2 0 k) = h (ix2 r k)) : refq c x = fun _ => q c h r := by
  funext i
  rw [q_eq]
  unfold refq
  show mag ((top x (Shape.reshapeEquiv shapeCasts_S1_S1x1 i) : EReal) * Ideal.ofBits .f32 c) = _
  rw [top_eq, funext hx]

variable (h : S3x16.Idx → EReal) (H : ∀ i, mag (h i) ≤ M)
include H

/-- The reference's scale of `x`, -/
theorem pay4_eq : k0_pay4 (F := Ideal) h = fun _ => scaleE (q 0x3B124925#32 h 0) := by
  rw [← refScale_eq _ (q_nonneg _ h 0) (q_lt_x h H 0), ← refq_eq 0x3B124925#32 h 0 (extractStridedSlice S1x16 ![0, 0] h slices_S3x16_o0_0_S1x16) (fun k => ?_)]
  · rfl
  · exact congrArg h (by funext a; match a with
      | ⟨0, _⟩ => rfl
      | ⟨1, _⟩ => exact Fin.ext (Nat.zero_add _))

/-- of the weight, -/
theorem pay8_eq : k0_pay8 (F := Ideal) (k0_pay5 h) k0_pay6 (k0_pay7 h) = fun _ => scaleE (q 0x3B124925#32 h 1) := by
  rw [← refScale_eq _ (q_nonneg _ h 1) (q_lt_x h H 1), ← refq_eq 0x3B124925#32 h 1 (extractStridedSlice S1x16 ![1, 0] h slices_S3x16_o1_0_S1x16) (fun k => ?_)]
  · rfl
  · exact congrArg h (by funext a; match a with
      | ⟨0, _⟩ => rfl
      | ⟨1, _⟩ => exact Fin.ext (Nat.zero_add _))

/-- and of `dy`. -/
theorem pay9_eq : k0_pay9 (F := Ideal) h = fun _ => scaleE (q 0x37924925#32 h 2) := by
  rw [← refScale_eq _ (q_nonneg _ h 2) (q_lt_y h H 2), ← refq_eq 0x37924925#32 h 2 (extractStridedSlice S1x16 ![2, 0] h slices_S3x16_o2_0_S1x16) (fun k => ?_)]
  · rfl
  · exact congrArg h (by funext a; match a with
      | ⟨0, _⟩ => rfl
      | ⟨1, _⟩ => exact Fin.ext (Nat.zero_add _))

end Cert.Quant
-- ==== Proof.Value.RefPay.lean ====
/- The reference's codes, products and new history over the extended reals, in terms of its inputs. -/
module

public import proofs.«01_k».proof.Proof.Value.RefScale
public import proofs.«01_k».proof.Proof.Value.Arr2

@[expose] public section
set_option maxRecDepth 16384
noncomputable section
namespace Cert.Quant
open Idealize.ShloMosaic Idealize.ShloMosaic.TcCoe Idealize.ShloMosaic.Tactic
open Cert.ReferenceIdeal Cert.ReferenceIdeal.Gen
open Cert.KernelIdeal.Gen (ix2_eq zero_f32 slotw histWord histAt)

/-- One over a scale, as the reference divides. -/
theorem one_div (v : EReal) (h0 : 0 ≤ v) (hv : v < T 247) : Ideal.div (Ideal.ofBits .f32 0x3F800000#32) (scaleE v) = invE v := by
  rw [f32_one, inv_eq v h0 hv]

/-- The reference's codes of `x`, -/
theorem pay10_eq (v : EReal) (h0 : 0 ≤ v) (hv : v < T 247) (x : S12288x3584.Idx → EReal) :
    k0_pay10 (F := Ideal) x (fun _ => scaleE v) = fun i => code 0x43E00000#32 0xC3E00000#32 (x i) (invE v) := by
  funext i
  rw [← one_div v h0 hv]
  rfl

/-- of the weight, -/
theorem pay11_eq (v : EReal) (h0 : 0 ≤ v) (hv : v < T 247) (x : S3584x3584.Idx → EReal) :
    k0_pay11 (F := Ideal) x (fun _ => scaleE v) = fun i => code 0x43E00000#32 0xC3E00000#32 (x i) (invE v) := by
  funext i
  rw [← one_div v h0 hv]
  rfl

/-- and of `dy`. -/
theorem pay12_eq (v : EReal) (h0 : 0 ≤ v) (hv : v < T 247) (x : S12288x3584.Idx → EReal) :
    k0_pay12 (F := Ideal) x (fun _ => scaleE v) = fun i => code 0x47600000#32 0xC7600000#32 (x i) (invE v) := by
  funext i
  rw [← one_div v h0 hv]
  rfl

/-- The reference's `y`: the product of the codes, scaled back. -/
theorem pay13_apply (a b : EReal) (X : S12288x3584.Idx → EReal) (w : S3584x3584.Idx → EReal) (W : S3584x3584.Idx → EReal) (hW : k0_pay11 (F := Ideal) w (fun _ => b) = W)
    (r : Fin 12288) (j : Fin 3584) : k0_pay13 (F := Ideal) w (fun _ => a) (fun _ => b) X (ix2 r j) = (∑ k : Fin 3584, X (ix2 r k) * W (ix2 k j)) * (a * b) := by
  have key := Ideal.matmul_plain_apply (M := 12288) (K := 3584) (N := 3584) (φ₁ := .fp8e4m3) (φ₂ := .fp8e4m3) none X W (constant S12288x3584 .f32 0x00000000#32) r j
  have h0 : (constant S12288x3584 .f32 0x00000000#32 : FVec Ideal S12288x3584 .f32) (ix2 r j) = (0 : EReal) := zero_f32
  simp only [ix2_eq] at key
  rw [h0, zero_add] at key
  subst hW
  exact congrArg (fun z : EReal => z * (a * b)) key

/-- The reference's `dx`: the product of the codes, row by row, scaled back. -/
theorem pay14_apply (a b : EReal) (x : S12288x3584.Idx → EReal) (w : S3584x3584.Idx → EReal) (X : S12288x3584.Idx → EReal) (hX : k0_pay12 (F := Ideal) x (fun _ => a) = X)
    (W : S3584x3584.Idx → EReal) (hW : k0_pay11 (F := Ideal) w (fun _ => b) = W)
    (r : Fin 12288) (j : Fin 3584) : k0_pay14 (F := Ideal) w x (fun _ => b) (fun _ => a) (ix2 r j) = (∑ k : Fin 3584, X (ix2 r k) * W (ix2 j k)) * (a * b) := by
  have key := Ideal.matmul_transposedRhs_apply (M := 12288) (K := 3584) (N := 3584) (φ₁ := .fp8e5m2) (φ₂ := .fp8e4m3) none X W (constant S12288x3584 .f32 0x00000000#32) r j
  have h0 : (constant S12288x3584 .f32 0x00000000#32 : FVec Ideal S12288x3584 .f32) (ix2 r j) = (0 : EReal) := zero_f32
  simp only [ix2_eq] at key
  rw [h0, zero_add] at key
  subst hX
  subst hW
  exact congrArg (fun z : EReal => z * (a * b)) key

/-- The reference's `dw`: the product of the codes, column by column, scaled back. -/
theorem pay15_apply (a b : EReal) (X : S12288x3584.Idx → EReal) (y : S12288x3584.Idx → EReal) (Y : S12288x3584.Idx → EReal) (hY : k0_pay12 (F := Ideal) y (fun _ => b) = Y)
    (r j : Fin 3584) : k0_pay15 (F := Ideal) y (fun _ => a) (fun _ => b) X (ix2 r j) = (∑ k : Fin 12288, X (ix2 k r) * Y (ix2 k j)) * (a * b) := by
  have key := colDims_apply (M := 3584) (K := 12288) (N := 3584) (φ₁ := .fp8e4m3) (φ₂ := .fp8e5m2) none X Y (constant S3584x3584 .f32 0x00000000#32) r j
  have h0 : (constant S3584x3584 .f32 0x00000000#32 : FVec Ideal S3584x3584 .f32) (ix2 r j) = (0 : EReal) := zero_f32
  simp only [ix2_eq] at key
  rw [h0, zero_add] at key
  subst hY
  exact congrArg (fun z : EReal => z * (a * b)) key

/-- The row numbers pick one of three. -/
theorem select_three (a b c : EReal) : ∀ r : Fin 3, Scalar.select (IntOp.cmpi .eq (BitVec.ofNat 32 r.val) 0#32) a (Scalar.select (IntOp.cmpi .eq (BitVec.ofNat 32 r.val) 1#32) b c) = (![a, b, c] : Fin 3 → EReal) r := by
  intro r
  match r with
  | 0 => rfl
  | 1 => rfl
  | 2 => rfl

/-- Three numbers, one per row. -/
def rows (a b c : EReal) : FVec Ideal S3x16 .f32 :=
  select (cmpi .eq (iota .tc S3x16 32 [0] iota_S3x16_d0_w32) (broadcast S3x16 0#32)) (broadcast S3x16 a)
    (select (cmpi .eq (iota .tc S3x16 32 [0] iota_S3x16_d0_w32) (broadcast S3x16 1#32)) (broadcast S3x16 b) (broadcast S3x16 c))

/-- A selection by row number takes the value of the row. -/
theorem rows_apply (a b c : EReal) (r : Fin 3) (j : Fin 16) : rows a b c (ix2 r j) = (![a, b, c] : Fin 3 → EReal) r := by
  rw [← select_three a b c r]
  have ei : iota .tc S3x16 32 [0] iota_S3x16_d0_w32 (ix2 r j) = BitVec.ofNat 32 r.val := iota_single_apply ..
  rw [← ei]
  rfl

/-- The current amaxes, row by row, are the largest magnitudes of the three inputs. -/
theorem pay16_apply (x : S12288x3584.Idx → EReal) (w : S3584x3584.Idx → EReal) (y : S12288x3584.Idx → EReal) (a b c : EReal)
    (ha : ∀ z, a ≤ z ↔ ∀ i, mag (x i) ≤ z) (hb : ∀ z, b ≤ z ↔ ∀ i, mag (w i) ≤ z) (hc : ∀ z, c ≤ z ↔ ∀ i, mag (y i) ≤ z) (r : Fin 3) (j : Fin 16) :
    k0_pay16 (F := Ideal) x w y (ix2 r j) = (![a, b, c] : Fin 3 → EReal) r := by
  have h0 : ∀ z : EReal, (extractAt ![0, 0, 0] (shapeCast S1x1x1 (multiReduction (F := Ideal) .maximumf [1, 2] S1 (shapeCast S1x12288x3584 (extf .f32 (absf (x : FVec Ideal S12288x3584 .bf16)) bitsLt_bf16_f32) shapeCasts_S12288x3584_S1x12288x3584) 0xFF800000#32 reduces_S1x12288x3584_S1 (.inl rfl) rfl) shapeCasts_S1_S1x1x1) inpos_S1x1x1_p0_0_0 : EReal) ≤ z ↔ ∀ i, mag (x i) ≤ z :=
    fun z => totalAt_le _ _ _ _ _ _ _ _ one_idx z
  have h1 : ∀ z : EReal, (extractAt ![0, 0, 0] (shapeCast S1x1x1 (multiReduction (F := Ideal) .maximumf [1, 2] S1 (shapeCast S1x3584x3584 (extf .f32 (absf (w : FVec Ideal S3584x3584 .bf16)) bitsLt_bf16_f32) shapeCasts_S3584x3584_S1x3584x3584) 0xFF800000#32 reduces_S1x3584x3584_S1 (.inl rfl) rfl) shapeCasts_S1_S1x1x1) inpos_S1x1x1_p0_0_0 : EReal) ≤ z ↔ ∀ i, mag (w i) ≤ z :=
    fun z => totalAt_le _ _ _ _ _ _ _ _ one_idx z
  have h2 : ∀ z : EReal, (extractAt ![0, 0, 0] (shapeCast S1x1x1 (multiReduction (F := Ideal) .maximumf [1, 2] S1 (shapeCast S1x12288x3584 (extf .f32 (absf (y : FVec Ideal S12288x3584 .bf16)) bitsLt_bf16_f32) shapeCasts_S12288x3584_S1x12288x3584) 0xFF800000#32 reduces_S1x12288x3584_S1 (.inl rfl) rfl) shapeCasts_S1_S1x1x1) inpos_S1x1x1_p0_0_0 : EReal) ≤ z ↔ ∀ i, mag (y i) ≤ z :=
    fun z => totalAt_le _ _ _ _ _ _ _ _ one_idx z
  have e0 := le_antisymm ((ha _).mpr ((h0 _).mp le_rfl)) ((h0 _).mpr ((ha _).mp le_rfl))
  have e1 := le_antisymm ((hb _).mpr ((h1 _).mp le_rfl)) ((h1 _).mpr ((hb _).mp le_rfl))
  have e2 := le_antisymm ((hc _).mpr ((h2 _).mp le_rfl)) ((h2 _).mpr ((hc _).mp le_rfl))
  rw [← rows_apply a b c r j, e0, e1, e2]
  unfold k0_pay16 rows
  rfl

/-- The reference's slot of the step is the kernel's. -/
theorem slot_word (s : BitVec 32) :
    Scalar.select (IntOp.andi (IntOp.xori (IntOp.cmpi .slt (IntOp.remsi .vector s 16#32) 0#32) (IntOp.cmpi .slt (16#32 : BitVec 32) 0#32)) (IntOp.cmpi .ne (IntOp.remsi .vector s 16#32) 0#32))
      (IntOp.addi (IntOp.remsi .vector s 16#32) 16#32) (IntOp.remsi .vector s 16#32) = slotw s := by
  have e : IntOp.remsi .vector s 16#32 = IntOp.remsi .scalar s 16#32 := by
    have hn : ¬ IntOp.SDivCorner s 16#32 := by
      rintro (h | ⟨_, h⟩)
      · exact absurd h (by decide)
      · exact absurd h (by decide)
    unfold IntOp.remsi
    rw [if_neg hn, if_neg hn]
  rw [e]
  unfold slotw
  show Scalar.select _ (IntOp.addi (IntOp.remsi .scalar s 16#32) 16#32) (IntOp.remsi .scalar s 16#32) = Scalar.select (IntOp.cmpi .slt (IntOp.remsi .scalar s 16#32) 0#32) (IntOp.addi (IntOp.remsi .scalar s 16#32) 16#32) (IntOp.remsi .scalar s 16#32)
  generalize IntOp.remsi .scalar s 16#32 = r
  refine congrArg (fun p => Scalar.select p _ _) ?_
  by_cases h : r = 0#32
  · subst h; rfl
  · have hne : IntOp.cmpi .ne r 0#32 = 1#1 := by
      show BitVec.ofBool (_ != _) = _
      rw [bne_iff_ne.mpr h]; rfl
    have hs : IntOp.cmpi .slt (16#32 : BitVec 32) 0#32 = 0#1 := rfl
    rw [hne, hs]
    generalize IntOp.cmpi .slt r 0#32 = p
    revert p
    decide

/-- The reference's new history. -/
theorem pay1_apply (h : S3x16.Idx → EReal) (s : S1x1.Idx → BitVec 32) (m : S3x16.Idx → EReal) (r : Fin 3) (j : Fin 16) :
    k0_pay1 (F := Ideal) h (iota .tc S3x16 32 [1] iota_S3x16_d1_w32) m (k0_pay17 (F := Ideal) s) 16#32 (Scalar.cmpi .eq 16#32 0#32) (ix2 r j)
      = histAt (s (ix2 0 0)) (m (ix2 r j)) (h (ix2 r j)) j := by
  unfold histAt histWord
  have ei : iota .tc S3x16 32 [1] iota_S3x16_d1_w32 (ix2 r j) = BitVec.ofNat 32 j.val := iota_single_apply ..
  have ec : ∀ a b : BitVec 32, IntOp.cmpi .eq a b = IntOp.cmpi .eq b a := by
    intro a b
    show BitVec.ofBool (a == b) = BitVec.ofBool (b == a)
    rw [Bool.beq_comm]
  rw [← slot_word, ← ei]
  show _ = Scalar.select (IntOp.cmpi .eq _ (iota .tc S3x16 32 [1] iota_S3x16_d1_w32 (ix2 r j))) _ _
  rw [ec]
  have es : k0_pay17 (F := Ideal) s = s := shapeCast_self ..
  rw [es]
  have eb : ∀ f : S1x1.Idx → BitVec 32, broadcastTo S3x16 f broadcasts_S1x1_S3x16 (ix2 r j) = f (ix2 0 0) := by
    intro f
    exact congrArg f (funext fun a => by fin_cases a <;> rfl)
  unfold k0_pay1
  refine congrArg (fun p => Scalar.select (IntOp.cmpi .eq (iota .tc S3x16 32 [1] iota_S3x16_d1_w32 (ix2 r j)) p) (m (ix2 r j)) (h (ix2 r j))) ?_
  exact eb _

end Cert.Quant
-- ==== Proof.Value.RefArr.lean ====
/- The arrays the reference leaves, over the extended reals, in terms of the arrays its body finds. -/
module

public import proofs.«01_k».proof.Proof.Gen.ReferenceIdeal.Value
public import proofs.«01_k».proof.Proof.Value.RefPay

@[expose] public section
set_option maxRecDepth 16384
noncomputable section
namespace Cert.ReferenceIdeal.Gen
open Idealize.ShloMosaic Idealize.ShloMosaic.TcCoe Idealize.ShloMosaic.Tactic
open Cert.Quant
open Cert.KernelIdeal.Gen (histAt)
open Idealize.ShloMosaic.Pipeline (Dat)

theorem hz : (![0, 0] : Fin 2 → Nat) = fun _ => 0 := by funext a; fin_cases a <;> rfl

section
variable (x : S12288x3584.Idx → EReal) (w : S3584x3584.Idx → EReal) (y : S12288x3584.Idx → EReal) (h : S3x16.Idx → EReal) (s : S1x1.Idx → BitVec 32)
  (H : ∀ i, mag (h i) ≤ Cert.Quant.M)

theorem pay18_eq : k0_pay18 (F := Ideal) x w y h s = x := by
  unfold k0_pay18 k0_pay2
  rw [View.ld_unit_zero (S := S12288x3584) hz]
  exact shapeCast_self ..

theorem pay19_eq : k0_pay19 (F := Ideal) x w y h s = y := by
  unfold k0_pay19 k0_pay3
  rw [View.ld_unit_zero (S := S12288x3584) hz]
  exact shapeCast_self ..

include H

theorem pay20_eq : k0_pay20 (F := Ideal) x w y h s = fun _ => scaleE (q 0x3B124925#32 h 0) := by
  unfold k0_pay20
  rw [View.ld_unit_zero (S := S3x16) hz, pay4_eq h H]

theorem pay21_eq : k0_pay21 (F := Ideal) x w y h s = fun _ => scaleE (q 0x3B124925#32 h 1) := by
  unfold k0_pay21
  rw [View.ld_unit_zero (S := S3x16) hz, pay8_eq h H]

theorem pay22_eq : k0_pay22 (F := Ideal) x w y h s = fun _ => scaleE (q 0x37924925#32 h 2) := by
  unfold k0_pay22
  rw [View.ld_unit_zero (S := S3x16) hz, pay9_eq h H]

theorem pay23_eq : k0_pay23 (F := Ideal) x w y h s = fun i => code 0x43E00000#32 0xC3E00000#32 (x i) (invE (q 0x3B124925#32 h 0)) := by
  unfold k0_pay23
  rw [pay18_eq, pay20_eq x w y h s H, pay10_eq _ (q_nonneg _ h 0) (q_lt_x h H 0)]

/-- What the body stores: `y`, -/
theorem out5_eq : out0_5 (F := Ideal) x w y h s = fun i => (∑ k : Fin 3584, code 0x43E00000#32 0xC3E00000#32 (x (ix2 (i 0) k)) (invE (q 0x3B124925#32 h 0)) * code 0x43E00000#32 0xC3E00000#32 (w (ix2 k (i 1))) (invE (q 0x3B124925#32 h 1))) * (scaleE (q 0x3B124925#32 h 0) * scaleE (q 0x3B124925#32 h 1)) := by
  unfold out0_5
  rw [View.canon_unit_zero hz, View.ld_unit_zero (S := S3584x3584) hz, pay20_eq x w y h s H, pay21_eq x w y h s H, pay23_eq x w y h s H]
  funext i
  idx_vars i
  exact pay13_apply _ _ _ w _ (pay11_eq _ (q_nonneg _ h 1) (q_lt_x h H 1) w) i0 i1

/-- `dx`, -/
theorem out6_eq : out0_6 (F := Ideal) x w y h s = fun i => (∑ k : Fin 3584, code 0x47600000#32 0xC7600000#32 (y (ix2 (i 0) k)) (invE (q 0x37924925#32 h 2)) * code 0x43E00000#32 0xC3E00000#32 (w (ix2 (i 1) k)) (invE (q 0x3B124925#32 h 1))) * (scaleE (q 0x37924925#32 h 2) * scaleE (q 0x3B124925#32 h 1)) := by
  unfold out0_6
  rw [View.canon_unit_zero hz, View.ld_unit_zero (S := S3584x3584) hz, pay19_eq, pay21_eq x w y h s H, pay22_eq x w y h s H]
  funext i
  idx_vars i
  exact pay14_apply _ _ y w _ (pay12_eq _ (q_nonneg _ h 2) (q_lt_y h H 2) y) _ (pay11_eq _ (q_nonneg _ h 1) (q_lt_x h H 1) w) i0 i1

/-- `dw`, -/
theorem out7_eq : out0_7 (F := Ideal) x w y h s = fun i => (∑ k : Fin 12288, code 0x43E00000#32 0xC3E00000#32 (x (ix2 k (i 0))) (invE (q 0x3B124925#32 h 0)) * code 0x47600000#32 0xC7600000#32 (y (ix2 k (i 1))) (invE (q 0x37924925#32 h 2))) * (scaleE (q 0x3B124925#32 h 0) * scaleE (q 0x37924925#32 h 2)) := by
  unfold out0_7
  rw [View.canon_unit_zero hz, pay19_eq, pay20_eq x w y h s H, pay22_eq x w y h s H, pay23_eq x w y h s H]
  funext i
  idx_vars i
  exact pay15_apply _ _ _ y _ (pay12_eq _ (q_nonneg _ h 2) (q_lt_y h H 2) y) i0 i1

/-- the codes of `x`, -/
theorem out8_eq : out0_8 (F := Ideal) x w y h s = fun i => code 0x43E00000#32 0xC3E00000#32 (x i) (invE (q 0x3B124925#32 h 0)) := by
  unfold out0_8
  rw [View.canon_unit_zero hz, pay23_eq x w y h s H]

/-- the scale of `x`, -/
theorem out9_eq : out0_9 (F := Ideal) x w y h s = fun _ => scaleE (q 0x3B124925#32 h 0) := by
  unfold out0_9
  rw [View.canon_unit_zero hz, pay20_eq x w y h s H]

/-- the codes of the weight, -/
theorem out10_eq : out0_10 (F := Ideal) x w y h s = fun i => code 0x43E00000#32 0xC3E00000#32 (w i) (invE (q 0x3B124925#32 h 1)) := by
  unfold out0_10
  rw [View.canon_unit_zero hz, View.ld_unit_zero (S := S3584x3584) hz, pay21_eq x w y h s H, pay11_eq _ (q_nonneg _ h 1) (q_lt_x h H 1)]

/-- the scale of the weight, -/
theorem out11_eq : out0_11 (F := Ideal) x w y h s = fun _ => scaleE (q 0x3B124925#32 h 1) := by
  unfold out0_11
  rw [View.canon_unit_zero hz, pay21_eq x w y h s H]

/-- the codes of `dy`, -/
theorem out12_eq : out0_12 (F := Ideal) x w y h s = fun i => code 0x47600000#32 0xC7600000#32 (y i) (invE (q 0x37924925#32 h 2)) := by
  unfold out0_12
  rw [View.canon_unit_zero hz, pay19_eq, pay22_eq x w y h s H, pay12_eq _ (q_nonneg _ h 2) (q_lt_y h H 2)]

/-- the scale of `dy`, -/
theorem out13_eq : out0_13 (F := Ideal) x w y h s = fun _ => scaleE (q 0x37924925#32 h 2) := by
  unfold out0_13
  rw [View.canon_unit_zero hz, pay22_eq x w y h s H]

omit H in
/-- and the new history. -/
theorem out14_eq (a b c : EReal) (ha : ∀ z, a ≤ z ↔ ∀ i, mag (x i) ≤ z) (hb : ∀ z, b ≤ z ↔ ∀ i, mag (w i) ≤ z) (hc : ∀ z, c ≤ z ↔ ∀ i, mag (y i) ≤ z) :
    out0_14 (F := Ideal) x w y h s = fun i => histAt (s (ix2 0 0)) ((![a, b, c] : Fin 3 → EReal) (i 0)) (h i) (i 1) := by
  unfold out0_14
  rw [View.canon_unit_zero hz, View.ld_unit_zero (S := S3x16) hz, View.ld_unit_zero (S := S3584x3584) hz, View.ld_unit_zero (S := S1x1) hz, pay18_eq, pay19_eq]
  funext i
  idx_vars i
  refine (pay1_apply h s _ i0 i1).trans ?_
  rw [pay16_apply x w y a b c ha hb hc]

end

/-! The region has one point and every window is its whole array. -/

variable (m : (l : Loc nD τ sig) → Buf (Elt Ideal) l) (c : Dev nD)

theorem idxr_0 : ∀ t, win0_0.index t = ![0, 0] := by decide +kernel
theorem idxr_1 : ∀ t, win0_1.index t = ![0, 0] := by decide +kernel
theorem idxr_2 : ∀ t, win0_2.index t = ![0, 0] := by decide +kernel
theorem idxr_3 : ∀ t, win0_3.index t = ![0, 0] := by decide +kernel
theorem idxr_4 : ∀ t, win0_4.index t = ![0, 0] := by decide +kernel

theorem iblk_0_eq (t : Fin cfg0.N) : iblk m c 0 t = V m c main_v0 := by
  funext y
  blk_ext [iblk, idxr_0 t]
theorem iblk_1_eq (t : Fin cfg0.N) : iblk m c 1 t = V m c main_arg1 := by
  funext y
  blk_ext [iblk, idxr_1 t]
theorem iblk_2_eq (t : Fin cfg0.N) : iblk m c 2 t = V m c main_v1 := by
  funext y
  blk_ext [iblk, idxr_2 t]
theorem iblk_3_eq (t : Fin cfg0.N) : iblk m c 3 t = V m c main_arg3 := by
  funext y
  blk_ext [iblk, idxr_3 t]
theorem iblk_4_eq (t : Fin cfg0.N) : iblk m c 4 t = V m c main_v2 := by
  funext y
  blk_ext [iblk, idxr_4 t]

theorem idxr_5 : ∀ t, win0_5.index t = ![0, 0] := by decide +kernel
theorem idxr_6 : ∀ t, win0_6.index t = ![0, 0] := by decide +kernel
theorem idxr_7 : ∀ t, win0_7.index t = ![0, 0] := by decide +kernel
theorem idxr_8 : ∀ t, win0_8.index t = ![0, 0] := by decide +kernel
theorem idxr_9 : ∀ t, win0_9.index t = ![0, 0] := by decide +kernel
theorem idxr_10 : ∀ t, win0_10.index t = ![0, 0] := by decide +kernel
theorem idxr_11 : ∀ t, win0_11.index t = ![0, 0] := by decide +kernel
theorem idxr_12 : ∀ t, win0_12.index t = ![0, 0] := by decide +kernel
theorem idxr_13 : ∀ t, win0_13.index t = ![0, 0] := by decide +kernel
theorem idxr_14 : ∀ t, win0_14.index t = ![0, 0] := by decide +kernel

variable (x : S12288x3584.Idx → EReal) (hx : x = V m c main_v0) (w : S3584x3584.Idx → EReal) (hw : w = V m c main_arg1)
  (y : S12288x3584.Idx → EReal) (hy : y = V m c main_v1) (h : S3x16.Idx → EReal) (hh : h = V m c main_arg3) (s : S1x1.Idx → BitVec 32) (hs : s = V m c main_v2)
include hx hw hy hh hs

theorem refArr_5 : (dats m 0 c).arrAt 5 cfg0.N = (out0_5 (F := Ideal) x w y h s : S12288x3584.Idx → EReal) := by
  refine (dats m 0 c).arrAt_eq_of_covers 5 _ (by decide +kernel) fun t hf z => ?_
  blk_simp
  rw [after0_5, iblk_0_eq, iblk_1_eq, iblk_2_eq, iblk_3_eq, iblk_4_eq, ← hx, ← hw, ← hy, ← hh, ← hs]
  generalize out0_5 (F := Ideal) x w y h s = o
  blk_ext [idxr_5 t]

theorem refArr_6 : (dats m 0 c).arrAt 6 cfg0.N = (out0_6 (F := Ideal) x w y h s : S12288x3584.Idx → EReal) := by
  refine (dats m 0 c).arrAt_eq_of_covers 6 _ (by decide +kernel) fun t hf z => ?_
  blk_simp
  rw [after0_6, iblk_0_eq, iblk_1_eq, iblk_2_eq, iblk_3_eq, iblk_4_eq, ← hx, ← hw, ← hy, ← hh, ← hs]
  generalize out0_6 (F := Ideal) x w y h s = o
  blk_ext [idxr_6 t]

theorem refArr_7 : (dats m 0 c).arrAt 7 cfg0.N = (out0_7 (F := Ideal) x w y h s : S3584x3584.Idx → EReal) := by
  refine (dats m 0 c).arrAt_eq_of_covers 7 _ (by decide +kernel) fun t hf z => ?_
  blk_simp
  rw [after0_7, iblk_0_eq, iblk_1_eq, iblk_2_eq, iblk_3_eq, iblk_4_eq, ← hx, ← hw, ← hy, ← hh, ← hs]
  generalize out0_7 (F := Ideal) x w y h s = o
  blk_ext [idxr_7 t]

theorem refArr_8 : (dats m 0 c).arrAt 8 cfg0.N = (out0_8 (F := Ideal) x w y h s : S12288x3584.Idx → EReal) := by
  refine (dats m 0 c).arrAt_eq_of_covers 8 _ (by decide +kernel) fun t hf z => ?_
  blk_simp
  rw [after0_8, iblk_0_eq, iblk_1_eq, iblk_2_eq, iblk_3_eq, iblk_4_eq, ← hx, ← hw, ← hy, ← hh, ← hs]
  generalize out0_8 (F := Ideal) x w y h s = o
  blk_ext [idxr_8 t]

theorem refArr_9 : (dats m 0 c).arrAt 9 cfg0.N = (out0_9 (F := Ideal) x w y h s : S1x1.Idx → EReal) := by
  refine (dats m 0 c).arrAt_eq_of_covers 9 _ (by decide +kernel) fun t hf z => ?_
  blk_simp
  rw [after0_9, iblk_0_eq, iblk_1_eq, iblk_2_eq, iblk_3_eq, iblk_4_eq, ← hx, ← hw, ← hy, ← hh, ← hs]
  generalize out0_9 (F := Ideal) x w y h s = o
  blk_ext [idxr_9 t]

theorem refArr_10 : (dats m 0 c).arrAt 10 cfg0.N = (out0_10 (F := Ideal) x w y h s : S3584x3584.Idx → EReal) := by
  refine (dats m 0 c).arrAt_eq_of_covers 10 _ (by decide +kernel) fun t hf z => ?_
  blk_simp
  rw [after0_10, iblk_0_eq, iblk_1_eq, iblk_2_eq, iblk_3_eq, iblk_4_eq, ← hx, ← hw, ← hy, ← hh, ← hs]
  generalize out0_10 (F := Ideal) x w y h s = o
  blk_ext [idxr_10 t]

theorem refArr_11 : (dats m 0 c).arrAt 11 cfg0.N = (out0_11 (F := Ideal) x w y h s : S1x1.Idx → EReal) := by
  refine (dats m 0 c).arrAt_eq_of_covers 11 _ (by decide +kernel) fun t hf z => ?_
  blk_simp
  rw [after0_11, iblk_0_eq, iblk_1_eq, iblk_2_eq, iblk_3_eq, iblk_4_eq, ← hx, ← hw, ← hy, ← hh, ← hs]
  generalize out0_11 (F := Ideal) x w y h s = o
  blk_ext [idxr_11 t]

theorem refArr_12 : (dats m 0 c).arrAt 12 cfg0.N = (out0_12 (F := Ideal) x w y h s : S12288x3584.Idx → EReal) := by
  refine (dats m 0 c).arrAt_eq_of_covers 12 _ (by decide +kernel) fun t hf z => ?_
  blk_simp
  rw [after0_12, iblk_0_eq, iblk_1_eq, iblk_2_eq, iblk_3_eq, iblk_4_eq, ← hx, ← hw, ← hy, ← hh, ← hs]
  generalize out0_12 (F := Ideal) x w y h s = o
  blk_ext [idxr_12 t]

theorem refArr_13 : (dats m 0 c).arrAt 13 cfg0.N = (out0_13 (F := Ideal) x w y h s : S1x1.Idx → EReal) := by
  refine (dats m 0 c).arrAt_eq_of_covers 13 _ (by decide +kernel) fun t hf z => ?_
  blk_simp
  rw [after0_13, iblk_0_eq, iblk_1_eq, iblk_2_eq, iblk_3_eq, iblk_4_eq, ← hx, ← hw, ← hy, ← hh, ← hs]
  generalize out0_13 (F := Ideal) x w y h s = o
  blk_ext [idxr_13 t]

theorem refArr_14 : (dats m 0 c).arrAt 14 cfg0.N = (out0_14 (F := Ideal) x w y h s : S3x16.Idx → EReal) := by
  refine (dats m 0 c).arrAt_eq_of_covers 14 _ (by decide +kernel) fun t hf z => ?_
  blk_simp
  rw [after0_14, iblk_0_eq, iblk_1_eq, iblk_2_eq, iblk_3_eq, iblk_4_eq, ← hx, ← hw, ← hy, ← hh, ← hs]
  generalize out0_14 (F := Ideal) x w y h s = o
  blk_ext [idxr_14 t]

end Cert.ReferenceIdeal.Gen
-- ==== Proof.Value.Same.lean ====
/- The kernel and the reference end with equal results over the extended reals, while the history is finite. -/
module

public import proofs.«01_k».proof.Defs
public import proofs.«01_k».proof.Proof.Value.Ends
public import proofs.«01_k».proof.Proof.Value.RefArr

@[expose] public section
set_option maxRecDepth 16384
noncomputable section

namespace Cert.ReferenceIdeal.Gen
open Idealize.ShloMosaic Idealize.ShloMosaic.TcCoe Idealize.ShloMosaic.Tactic

variable (m : (ℓ : Loc nD τ sig) → Buf (Elt Ideal) ℓ) (c : Dev nD)

/-- The reference merges the leading axes of `x` and `dy` and makes the step a one-by-one array, as the kernel does. -/
theorem V_x : V m c main_v0 = shapeCast S12288x3584 (m ((c : Thread nD τ).loc main_arg0) : S6x2048x3584.Idx → EReal) shapeCasts_S6x2048x3584_S12288x3584 := by
  simp only [V, hostOps0, List.flatten_cons, List.flatten_nil, List.append_nil, List.cons_append, List.nil_append, StableHlo.after_cons, StableHlo.after_nil]
  rw [StableHlo.reshape_result_ne', StableHlo.reshape_result_ne', StableHlo.reshape_result'] <;> first | rfl | decide
theorem V_dy : V m c main_v1 = shapeCast S12288x3584 (m ((c : Thread nD τ).loc main_arg2) : S6x2048x3584.Idx → EReal) shapeCasts_S6x2048x3584_S12288x3584 := by
  simp only [V, hostOps0, List.flatten_cons, List.flatten_nil, List.append_nil, List.cons_append, List.nil_append, StableHlo.after_cons, StableHlo.after_nil]
  rw [StableHlo.reshape_result_ne', StableHlo.reshape_result', StableHlo.reshape_result_ne'] <;> first | rfl | decide
theorem V_step : V m c main_v2 = shapeCast S1x1 (m ((c : Thread nD τ).loc main_arg4) : S_.Idx → BitVec 32) shapeCasts_S_S1x1 := by
  simp only [V, hostOps0, List.flatten_cons, List.flatten_nil, List.append_nil, List.cons_append, List.nil_append, StableHlo.after_cons, StableHlo.after_nil]
  rw [StableHlo.reshape_result', StableHlo.reshape_result_ne', StableHlo.reshape_result_ne'] <;> first | rfl | decide

end Cert.ReferenceIdeal.Gen

namespace Cert.Pre_finite_history.Gen
open Idealize.ShloMosaic

/-- The one shape relation the precondition's function takes. -/
theorem facts : Cert.Pre_finite_history.Facts := ⟨by decide⟩

end Cert.Pre_finite_history.Gen

namespace Cert.Quant
open Idealize.ShloMosaic Idealize.ShloMosaic.TcCoe Idealize.SL.Sem

attribute [local instance] Cert.Pre_finite_history.Gen.facts Cert.KernelIdeal.Gen.facts Cert.ReferenceIdeal.Gen.facts

/-- The precondition bounds every entry of the history by the largest finite f32. -/
theorem history_le (m : (ℓ : Loc Cert.KernelIdeal.nD Cert.KernelIdeal.τ Cert.KernelIdeal.sig) → Buf (Elt Ideal) ℓ) (hp : Cert.Pre_KernelIdeal_finite_history m) (c : Dev Cert.KernelIdeal.nD)
    (h : Cert.KernelIdeal.S3x16.Idx → EReal) (hh : h = m ((c.tc : Thread Cert.KernelIdeal.nD Cert.KernelIdeal.τ).loc Cert.KernelIdeal.main_arg3)) : ∀ i, mag (h i) ≤ Cert.Quant.M := by
  intro i
  have e := congrFun (hp c) i
  subst hh
  have e' : BitVec.ofBool (decide (mag ((m ((c.tc : Thread Cert.KernelIdeal.nD Cert.KernelIdeal.τ).loc Cert.KernelIdeal.main_arg3) : Cert.KernelIdeal.S3x16.Idx → EReal) i) ≤ Cert.Quant.M)) = 1#1 := e
  by_contra hn
  rw [decide_eq_false hn] at e'
  exact absurd e' (by decide)

open Cert.KernelIdeal.Gen in
/-- The value claim. -/
theorem same : Cert.algebraic_KernelIdeal_ReferenceIdeal_pre_finite_history := by
  intro m g m' g' hp hargs
  refine ⟨fun c => W4 m g c (Proc.devRef .tc Cert.KernelIdeal.main_v4_2), fun c => W4 m g c (Proc.devRef .tc Cert.KernelIdeal.main_v4_3), fun c => W4 m g c (Proc.devRef .tc Cert.KernelIdeal.main_v5_0),
    fun c => W4 m g c (Proc.devRef .tc Cert.KernelIdeal.main_v4_0), fun c => W4 m g c (Proc.devRef .tc Cert.KernelIdeal.main_v4_4), fun c => W4 m g c (Proc.devRef .tc Cert.KernelIdeal.main_v3_0),
    fun c => W4 m g c (Proc.devRef .tc Cert.KernelIdeal.main_v3_1), fun c => W4 m g c (Proc.devRef .tc Cert.KernelIdeal.main_v4_1), fun c => W4 m g c (Proc.devRef .tc Cert.KernelIdeal.main_v4_5),
    fun c => W4 m g c (Proc.devRef .tc Cert.KernelIdeal.main_v5_1), ?_, ?_⟩
  · exact (θ_run Cert.KernelIdeal.defs _ _).mono (fun s h c =>
      ⟨h.1 c _ (mem_uc Cert.KernelIdeal.main_v4_2 (by decide)), h.1 c _ (mem_uc Cert.KernelIdeal.main_v4_3 (by decide)), h.1 c _ (mem_uc Cert.KernelIdeal.main_v5_0 (by decide)),
       h.1 c _ (mem_uc Cert.KernelIdeal.main_v4_0 (by decide)), h.1 c _ (mem_uc Cert.KernelIdeal.main_v4_4 (by decide)), h.1 c _ (mem_uc Cert.KernelIdeal.main_v3_0 (by decide)),
       h.1 c _ (mem_uc Cert.KernelIdeal.main_v3_1 (by decide)), h.1 c _ (mem_uc Cert.KernelIdeal.main_v4_1 (by decide)), h.1 c _ (mem_uc Cert.KernelIdeal.main_v4_5 (by decide)),
       h.1 c _ (mem_uc Cert.KernelIdeal.main_v5_1 (by decide)),
       (h.1 c _ (mem_uc Cert.KernelIdeal.main_arg0 (by decide))).trans (W4_main_arg0 m g c),
       (h.1 c _ (mem_uc Cert.KernelIdeal.main_arg1 (by decide))).trans (W4_main_arg1 m g c),
       (h.1 c _ (mem_uc Cert.KernelIdeal.main_arg2 (by decide))).trans (W4_main_arg2 m g c),
       (h.1 c _ (mem_uc Cert.KernelIdeal.main_arg3 (by decide))).trans (W4_main_arg3 m g c),
       (h.1 c _ (mem_uc Cert.KernelIdeal.main_arg4 (by decide))).trans (W4_main_arg4 m g c)⟩) (Cert.KernelIdeal.Gen.run m g)
  · refine (θ_run Cert.ReferenceIdeal.defs _ _).mono (fun s hr c => ?_) (Cert.ReferenceIdeal.Value.run_blocks m' g')
    obtain ⟨r0, r1, r2, r3, r4, r5, r6, r7, r8, r9, ra⟩ := hr c
    obtain ⟨a0, a1, a2, a3, a4⟩ := hargs c
    obtain ⟨x, hx⟩ : ∃ x : Cert.KernelIdeal.S12288x3584.Idx → EReal, x = W1 m g c (Proc.devRef .tc Cert.KernelIdeal.main_v0) := ⟨_, rfl⟩
    obtain ⟨w, hw⟩ : ∃ w : Cert.KernelIdeal.S3584x3584.Idx → EReal, w = m ((c : Thread Cert.KernelIdeal.nD Cert.KernelIdeal.τ).loc Cert.KernelIdeal.main_arg1) := ⟨_, rfl⟩
    obtain ⟨y, hy⟩ : ∃ y : Cert.KernelIdeal.S12288x3584.Idx → EReal, y = W1 m g c (Proc.devRef .tc Cert.KernelIdeal.main_v1) := ⟨_, rfl⟩
    obtain ⟨h, hh⟩ : ∃ h : Cert.KernelIdeal.S3x16.Idx → EReal, h = m ((c : Thread Cert.KernelIdeal.nD Cert.KernelIdeal.τ).loc Cert.KernelIdeal.main_arg3) := ⟨_, rfl⟩
    obtain ⟨st, hs⟩ : ∃ st : Cert.KernelIdeal.S1x1.Idx → BitVec 32, st = W1 m g c (Proc.devRef .tc Cert.KernelIdeal.main_v2) := ⟨_, rfl⟩
    have H := history_le m hp c h hh
    have hx' : x = Cert.ReferenceIdeal.Gen.V m' c Cert.ReferenceIdeal.main_v0 := by
      rw [hx, W1_x, Cert.ReferenceIdeal.Gen.V_x, a0]
    have hy' : y = Cert.ReferenceIdeal.Gen.V m' c Cert.ReferenceIdeal.main_v1 := by
      rw [hy, W1_dy, Cert.ReferenceIdeal.Gen.V_dy, a2]
    have hs' : st = Cert.ReferenceIdeal.Gen.V m' c Cert.ReferenceIdeal.main_v2 := by
      rw [hs, W1_step, Cert.ReferenceIdeal.Gen.V_step, a4]
    have hw' : w = Cert.ReferenceIdeal.Gen.V m' c Cert.ReferenceIdeal.main_arg1 := hw.trans (a1.symm.trans (Cert.ReferenceIdeal.Gen.V_main_arg1 m' c).symm)
    have hh' : h = Cert.ReferenceIdeal.Gen.V m' c Cert.ReferenceIdeal.main_arg3 := hh.trans (a3.symm.trans (Cert.ReferenceIdeal.Gen.V_main_arg3 m' c).symm)
    obtain ⟨a, b, d, ha, hb, hd, hist⟩ := end_hist m g c x hx w hw y hy h hh st hs
    exact ⟨r0.trans ((Cert.ReferenceIdeal.Gen.refArr_5 m' c x hx' w hw' y hy' h hh' st hs').trans ((Cert.ReferenceIdeal.Gen.out5_eq x w y h st H).trans (end_y m g c x hx w hw h hh).symm)),
      r1.trans ((Cert.ReferenceIdeal.Gen.refArr_6 m' c x hx' w hw' y hy' h hh' st hs').trans ((Cert.ReferenceIdeal.Gen.out6_eq x w y h st H).trans (end_dx m g c w hw y hy h hh).symm)),
      r2.trans ((Cert.ReferenceIdeal.Gen.refArr_7 m' c x hx' w hw' y hy' h hh' st hs').trans ((Cert.ReferenceIdeal.Gen.out7_eq x w y h st H).trans (end_dw m g c x hx y hy h hh).symm)),
      r3.trans ((Cert.ReferenceIdeal.Gen.refArr_8 m' c x hx' w hw' y hy' h hh' st hs').trans ((Cert.ReferenceIdeal.Gen.out8_eq x w y h st H).trans (end_xc m g c x hx h hh).symm)),
      r4.trans ((Cert.ReferenceIdeal.Gen.refArr_9 m' c x hx' w hw' y hy' h hh' st hs').trans ((Cert.ReferenceIdeal.Gen.out9_eq x w y h st H).trans (end_xs m g c h hh).symm)),
      r5.trans ((Cert.ReferenceIdeal.Gen.refArr_10 m' c x hx' w hw' y hy' h hh' st hs').trans ((Cert.ReferenceIdeal.Gen.out10_eq x w y h st H).trans (end_wc m g c w hw h hh).symm)),
      r6.trans ((Cert.ReferenceIdeal.Gen.refArr_11 m' c x hx' w hw' y hy' h hh' st hs').trans ((Cert.ReferenceIdeal.Gen.out11_eq x w y h st H).trans (end_ws m g c h hh).symm)),
      r7.trans ((Cert.ReferenceIdeal.Gen.refArr_12 m' c x hx' w hw' y hy' h hh' st hs').trans ((Cert.ReferenceIdeal.Gen.out12_eq x w y h st H).trans (end_dyc m g c y hy h hh).symm)),
      r8.trans ((Cert.ReferenceIdeal.Gen.refArr_13 m' c x hx' w hw' y hy' h hh' st hs').trans ((Cert.ReferenceIdeal.Gen.out13_eq x w y h st H).trans (end_dys m g c h hh).symm)),
      r9.trans ((Cert.ReferenceIdeal.Gen.refArr_14 m' c x hx' w hw' y hy' h hh' st hs').trans ((Cert.ReferenceIdeal.Gen.out14_eq x w y h st a b d ha hb hd).trans hist.symm)),
      ra⟩

end Cert.Quant
-- ==== Proof.lean ====
module

public import proofs.«01_k».proof.Defs
public import proofs.«01_k».proof.Proof.Kernel.Frame
public import proofs.«01_k».proof.Proof.KernelIdeal.Frame
public import proofs.«01_k».proof.Proof.Gen.ReferenceIdeal.Value
public import proofs.«01_k».proof.Proof.Gen.ReferenceIdeal.Frame
public import proofs.«01_k».proof.Proof.Value.Same

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_finite_history.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Cert.Quant.same⟩

end Cert.Proof

end
